-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![2048, 2048]⟩ ⟨2, ![4096, 2048]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S2048 : Shape := ⟨1, ![2048]⟩
abbrev S4096x2048 : Shape := ⟨2, ![4096, 2048]⟩
abbrev S1x2048 : Shape := ⟨2, ![1, 2048]⟩
abbrev S2048x2048 : Shape := ⟨2, ![2048, 2048]⟩
abbrev S1024x2048 : Shape := ⟨2, ![1024, 2048]⟩
abbrev S2x128x2048 : Shape := ⟨3, ![2, 128, 2048]⟩
abbrev S128x2048 : Shape := ⟨2, ![128, 2048]⟩
abbrev S8 : Shape := ⟨1, ![8]⟩
abbrev S2 : Shape := ⟨1, ![2]⟩
abbrev S_ : Shape := ⟨0, ![]⟩
abbrev S1 : Shape := ⟨1, ![1]⟩
abbrev S1x128x2048 : Shape := ⟨3, ![1, 128, 2048]⟩
abbrev S128 : Shape := ⟨1, ![128]⟩
abbrev S128x1 : Shape := ⟨2, ![128, 1]⟩

abbrev nBuf : Space → Nat
  | .hbm => 5
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S2048x2048, .f32⟩
  | .local _ .vmem, ⟨0, _⟩ => ⟨S1x2048, .f32⟩
  | .local _ .vmem, ⟨1, _⟩ => ⟨S1024x2048, .bf16⟩
  | .local _ .vmem, ⟨2, _⟩ => ⟨S2048x2048, .bf16⟩
  | .local _ .vmem, ⟨3, _⟩ => ⟨S2x128x2048, .f32⟩
  | .local _ .vmem, ⟨4, _⟩ => ⟨S2x128x2048, .f32⟩
  | .local _ .vmem, ⟨5, _⟩ => ⟨S128x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7 : BitVec 32 := 8#32
  let v15 : BitVec 32 := Scalar.muli v9 c8_i32_7
  let v16 : BitVec 32 := Scalar.addi c0_i32 v15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v17 : BitVec 32 := Scalar.muli v5 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v21 : BitVec 32 := Scalar.muli v2 c8_i32_11
  let v22 : BitVec 32 := Scalar.addi c0_i32_12 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v23 : BitVec 32 := Scalar.muli v5 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c2_i32_3 : BitVec 32 := 2#32
  let v10 : BitVec 32 := Scalar.remsi v8 c2_i32_3
  let v11 : BitVec 32 := Scalar.muli c2_i32_4 v10
  let v12 : BitVec 32 := Scalar.subi v8 v11
  let c1_i32_5 : BitVec 32 := 1#32
  let v13 : BitVec 32 := Scalar.addi v12 c1_i32_5
  let c1_i32_14 : BitVec 32 := 1#32
  let v25 : BitVec 32 := Scalar.muli v13 c1_i32_14
  let v26 : BitVec 32 := Scalar.addi v24 v25
  v26.toNat
def k0_off1 (d0 : Dev nD) (c0_i32_16 : BitVec 32) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32 : BitVec 32 := 2048#32
  let v27 : BitVec 32 := Scalar.muli v9 c2048_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let c1024_i32 : BitVec 32 := 1024#32
  let v28 : BitVec 32 := Scalar.muli v10 c1024_i32
  let v29 : BitVec 32 := Scalar.addi v27 v28
  let v30 : BitVec 32 := Scalar.addi v29 c0_i32_16
  let c0_i32_21 : BitVec 32 := 0#32
  ![v30.toNat, 0]
def k0_off2 (d0 : Dev nD) (c0_i32_42 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let c1024_i32_41 : BitVec 32 := 1024#32
  let v60 : BitVec 32 := Scalar.muli v10 c1024_i32_41
  let v61 : BitVec 32 := Scalar.addi v60 c0_i32_42
  let c0_i32_49 : BitVec 32 := 0#32
  ![v61.toNat, 0]
def k0_dev3 (d0 : Dev nD) : Nat :=
  let c0_i32_46 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_45 : BitVec 32 := 8#32
  let v62 : BitVec 32 := Scalar.muli v9 c8_i32_45
  let v63 : BitVec 32 := Scalar.addi c0_i32_46 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v64 : BitVec 32 := Scalar.muli v5 c4_i32_47
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v66 : BitVec 32 := Scalar.muli v8 c1_i32_48
  let v67 : BitVec 32 := Scalar.addi v65 v66
  v67.toNat
def k0_dev4 (d0 : Dev nD) : Nat :=
  let c0_i32_75 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_74 : BitVec 32 := 8#32
  let v100 : BitVec 32 := Scalar.muli v9 c8_i32_74
  let v101 : BitVec 32 := Scalar.addi c0_i32_75 v100
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v102 : BitVec 32 := Scalar.muli v5 c4_i32_76
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v104 : BitVec 32 := Scalar.muli v8 c1_i32_77
  let v105 : BitVec 32 := Scalar.addi v103 v104
  v105.toNat
def k0_dev5 (d0 : Dev nD) : Nat :=
  let c0_i32_105 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_104 : BitVec 32 := 8#32
  let v138 : BitVec 32 := Scalar.muli v9 c8_i32_104
  let v139 : BitVec 32 := Scalar.addi c0_i32_105 v138
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_106 : BitVec 32 := 4#32
  let v140 : BitVec 32 := Scalar.muli v5 c4_i32_106
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v142 : BitVec 32 := Scalar.muli v8 c1_i32_107
  let v143 : BitVec 32 := Scalar.addi v141 v142
  v143.toNat
def k0_dev6 (d0 : Dev nD) : Nat :=
  let c0_i32_134 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_133 : BitVec 32 := 8#32
  let v176 : BitVec 32 := Scalar.muli v9 c8_i32_133
  let v177 : BitVec 32 := Scalar.addi c0_i32_134 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_135 : BitVec 32 := 4#32
  let v178 : BitVec 32 := Scalar.muli v5 c4_i32_135
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v180 : BitVec 32 := Scalar.muli v8 c1_i32_136
  let v181 : BitVec 32 := Scalar.addi v179 v180
  v181.toNat
def k0_dev7 (d0 : Dev nD) : Nat :=
  let c0_i32_164 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_163 : BitVec 32 := 8#32
  let v214 : BitVec 32 := Scalar.muli v9 c8_i32_163
  let v215 : BitVec 32 := Scalar.addi c0_i32_164 v214
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_165 : BitVec 32 := 4#32
  let v216 : BitVec 32 := Scalar.muli v5 c4_i32_165
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v218 : BitVec 32 := Scalar.muli v8 c1_i32_166
  let v219 : BitVec 32 := Scalar.addi v217 v218
  v219.toNat
def k0_dev8 (d0 : Dev nD) : Nat :=
  let c0_i32_193 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_192 : BitVec 32 := 8#32
  let v252 : BitVec 32 := Scalar.muli v9 c8_i32_192
  let v253 : BitVec 32 := Scalar.addi c0_i32_193 v252
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_194 : BitVec 32 := 4#32
  let v254 : BitVec 32 := Scalar.muli v5 c4_i32_194
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v256 : BitVec 32 := Scalar.muli v8 c1_i32_195
  let v257 : BitVec 32 := Scalar.addi v255 v256
  v257.toNat
def k0_dev9 (d0 : Dev nD) : Nat :=
  let c0_i32_222 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_221 : BitVec 32 := 8#32
  let v290 : BitVec 32 := Scalar.muli v9 c8_i32_221
  let v291 : BitVec 32 := Scalar.addi c0_i32_222 v290
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_223 : BitVec 32 := 4#32
  let v292 : BitVec 32 := Scalar.muli v5 c4_i32_223
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_224 : BitVec 32 := 1#32
  let v294 : BitVec 32 := Scalar.muli v8 c1_i32_224
  let v295 : BitVec 32 := Scalar.addi v293 v294
  v295.toNat
def k0_dev10 (d0 : Dev nD) : Nat :=
  let c0_i32_244 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_243 : BitVec 32 := 8#32
  let v319 : BitVec 32 := Scalar.muli v9 c8_i32_243
  let v320 : BitVec 32 := Scalar.addi c0_i32_244 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_245 : BitVec 32 := 4#32
  let v321 : BitVec 32 := Scalar.muli v5 c4_i32_245
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v323 : BitVec 32 := Scalar.muli v8 c1_i32_246
  let v324 : BitVec 32 := Scalar.addi v322 v323
  v324.toNat
def k0_off3 (d0 : Dev nD) (c0_i32_254 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_252 : BitVec 32 := 2048#32
  let v333 : BitVec 32 := Scalar.muli v2 c2048_i32_252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let c1024_i32_253 : BitVec 32 := 1024#32
  let v334 : BitVec 32 := Scalar.muli v10 c1024_i32_253
  let v335 : BitVec 32 := Scalar.addi v334 c0_i32_254
  let v336 : BitVec 32 := Scalar.addi v333 v335
  let c0_i32_259 : BitVec 32 := 0#32
  ![v336.toNat, 0]
def k0_dev11 (d0 : Dev nD) : Nat :=
  let c0_i32_284 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_283 : BitVec 32 := 8#32
  let v365 : BitVec 32 := Scalar.muli v2 c8_i32_283
  let v366 : BitVec 32 := Scalar.addi c0_i32_284 v365
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_285 : BitVec 32 := 4#32
  let v367 : BitVec 32 := Scalar.muli v5 c4_i32_285
  let v368 : BitVec 32 := Scalar.addi v366 v367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c2_i32_3 : BitVec 32 := 2#32
  let v10 : BitVec 32 := Scalar.remsi v8 c2_i32_3
  let v11 : BitVec 32 := Scalar.muli c2_i32_4 v10
  let v12 : BitVec 32 := Scalar.subi v8 v11
  let c1_i32_5 : BitVec 32 := 1#32
  let v13 : BitVec 32 := Scalar.addi v12 c1_i32_5
  let c1_i32_286 : BitVec 32 := 1#32
  let v369 : BitVec 32 := Scalar.muli v13 c1_i32_286
  let v370 : BitVec 32 := Scalar.addi v368 v369
  v370.toNat
def k0_off4 (d0 : Dev nD) (c0_i32_290 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let c1024_i32_289 : BitVec 32 := 1024#32
  let v377 : BitVec 32 := Scalar.muli v10 c1024_i32_289
  let v378 : BitVec 32 := Scalar.addi v377 c0_i32_290
  let v390 : Index := Scalar.indexCast v378
  let c0_302 : Index := 0#32
  ![v390.toNat, 0]
def k0_dev12 (d0 : Dev nD) : Nat :=
  let c0_i32_333 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_332 : BitVec 32 := 8#32
  let v434 : BitVec 32 := Scalar.muli v2 c8_i32_332
  let v435 : BitVec 32 := Scalar.addi c0_i32_333 v434
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_334 : BitVec 32 := 4#32
  let v436 : BitVec 32 := Scalar.muli v5 c4_i32_334
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c2_i32_3 : BitVec 32 := 2#32
  let v10 : BitVec 32 := Scalar.remsi v8 c2_i32_3
  let v11 : BitVec 32 := Scalar.muli c2_i32_4 v10
  let v12 : BitVec 32 := Scalar.subi v8 v11
  let c1_i32_5 : BitVec 32 := 1#32
  let v13 : BitVec 32 := Scalar.addi v12 c1_i32_5
  let c1_i32_335 : BitVec 32 := 1#32
  let v438 : BitVec 32 := Scalar.muli v13 c1_i32_335
  let v439 : BitVec 32 := Scalar.addi v437 v438
  v439.toNat
def k0_dev13 (d0 : Dev nD) : Nat :=
  let c0_i32_383 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_382 : BitVec 32 := 8#32
  let v503 : BitVec 32 := Scalar.muli v2 c8_i32_382
  let v504 : BitVec 32 := Scalar.addi c0_i32_383 v503
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_384 : BitVec 32 := 4#32
  let v505 : BitVec 32 := Scalar.muli v5 c4_i32_384
  let v506 : BitVec 32 := Scalar.addi v504 v505
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c2_i32_3 : BitVec 32 := 2#32
  let v10 : BitVec 32 := Scalar.remsi v8 c2_i32_3
  let v11 : BitVec 32 := Scalar.muli c2_i32_4 v10
  let v12 : BitVec 32 := Scalar.subi v8 v11
  let c1_i32_5 : BitVec 32 := 1#32
  let v13 : BitVec 32 := Scalar.addi v12 c1_i32_5
  let c1_i32_385 : BitVec 32 := 1#32
  let v507 : BitVec 32 := Scalar.muli v13 c1_i32_385
  let v508 : BitVec 32 := Scalar.addi v506 v507
  v508.toNat
def k0_dev14 (d0 : Dev nD) : Nat :=
  let c0_i32_433 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_432 : BitVec 32 := 8#32
  let v572 : BitVec 32 := Scalar.muli v2 c8_i32_432
  let v573 : BitVec 32 := Scalar.addi c0_i32_433 v572
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_434 : BitVec 32 := 4#32
  let v574 : BitVec 32 := Scalar.muli v5 c4_i32_434
  let v575 : BitVec 32 := Scalar.addi v573 v574
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c2_i32_3 : BitVec 32 := 2#32
  let v10 : BitVec 32 := Scalar.remsi v8 c2_i32_3
  let v11 : BitVec 32 := Scalar.muli c2_i32_4 v10
  let v12 : BitVec 32 := Scalar.subi v8 v11
  let c1_i32_5 : BitVec 32 := 1#32
  let v13 : BitVec 32 := Scalar.addi v12 c1_i32_5
  let c1_i32_435 : BitVec 32 := 1#32
  let v576 : BitVec 32 := Scalar.muli v13 c1_i32_435
  let v577 : BitVec 32 := Scalar.addi v575 v576
  v577.toNat
def k0_dev15 (d0 : Dev nD) : Nat :=
  let c0_i32_483 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_482 : BitVec 32 := 8#32
  let v641 : BitVec 32 := Scalar.muli v2 c8_i32_482
  let v642 : BitVec 32 := Scalar.addi c0_i32_483 v641
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_484 : BitVec 32 := 4#32
  let v643 : BitVec 32 := Scalar.muli v5 c4_i32_484
  let v644 : BitVec 32 := Scalar.addi v642 v643
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c2_i32_3 : BitVec 32 := 2#32
  let v10 : BitVec 32 := Scalar.remsi v8 c2_i32_3
  let v11 : BitVec 32 := Scalar.muli c2_i32_4 v10
  let v12 : BitVec 32 := Scalar.subi v8 v11
  let c1_i32_5 : BitVec 32 := 1#32
  let v13 : BitVec 32 := Scalar.addi v12 c1_i32_5
  let c1_i32_485 : BitVec 32 := 1#32
  let v645 : BitVec 32 := Scalar.muli v13 c1_i32_485
  let v646 : BitVec 32 := Scalar.addi v644 v645
  v646.toNat
def k0_dev16 (d0 : Dev nD) : Nat :=
  let c0_i32_533 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_532 : BitVec 32 := 8#32
  let v710 : BitVec 32 := Scalar.muli v2 c8_i32_532
  let v711 : BitVec 32 := Scalar.addi c0_i32_533 v710
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_534 : BitVec 32 := 4#32
  let v712 : BitVec 32 := Scalar.muli v5 c4_i32_534
  let v713 : BitVec 32 := Scalar.addi v711 v712
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c2_i32_3 : BitVec 32 := 2#32
  let v10 : BitVec 32 := Scalar.remsi v8 c2_i32_3
  let v11 : BitVec 32 := Scalar.muli c2_i32_4 v10
  let v12 : BitVec 32 := Scalar.subi v8 v11
  let c1_i32_5 : BitVec 32 := 1#32
  let v13 : BitVec 32 := Scalar.addi v12 c1_i32_5
  let c1_i32_535 : BitVec 32 := 1#32
  let v714 : BitVec 32 := Scalar.muli v13 c1_i32_535
  let v715 : BitVec 32 := Scalar.addi v713 v714
  v715.toNat
def k0_dev17 (d0 : Dev nD) : Nat :=
  let c0_i32_583 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_582 : BitVec 32 := 8#32
  let v779 : BitVec 32 := Scalar.muli v2 c8_i32_582
  let v780 : BitVec 32 := Scalar.addi c0_i32_583 v779
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_584 : BitVec 32 := 4#32
  let v781 : BitVec 32 := Scalar.muli v5 c4_i32_584
  let v782 : BitVec 32 := Scalar.addi v780 v781
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c2_i32_3 : BitVec 32 := 2#32
  let v10 : BitVec 32 := Scalar.remsi v8 c2_i32_3
  let v11 : BitVec 32 := Scalar.muli c2_i32_4 v10
  let v12 : BitVec 32 := Scalar.subi v8 v11
  let c1_i32_5 : BitVec 32 := 1#32
  let v13 : BitVec 32 := Scalar.addi v12 c1_i32_5
  let c1_i32_585 : BitVec 32 := 1#32
  let v783 : BitVec 32 := Scalar.muli v13 c1_i32_585
  let v784 : BitVec 32 := Scalar.addi v782 v783
  v784.toNat
def k0_off5 (d0 : Dev nD) (c0_i32_605 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_602 : BitVec 32 := 2048#32
  let v808 : BitVec 32 := Scalar.muli v2 c2048_i32_602
  let c1_i32_603 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v809 : BitVec 32 := Scalar.subi c1_i32_603 v10
  let c1024_i32_604 : BitVec 32 := 1024#32
  let v810 : BitVec 32 := Scalar.muli v809 c1024_i32_604
  let v811 : BitVec 32 := Scalar.addi v810 c0_i32_605
  let v812 : BitVec 32 := Scalar.addi v808 v811
  let c0_i32_610 : BitVec 32 := 0#32
  ![v812.toNat, 0]
def k0_dev18 (d0 : Dev nD) : Nat :=
  let c0_i32_634 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_633 : BitVec 32 := 8#32
  let v849 : BitVec 32 := Scalar.muli v2 c8_i32_633
  let v850 : BitVec 32 := Scalar.addi c0_i32_634 v849
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_635 : BitVec 32 := 4#32
  let v851 : BitVec 32 := Scalar.muli v5 c4_i32_635
  let v852 : BitVec 32 := Scalar.addi v850 v851
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c2_i32_3 : BitVec 32 := 2#32
  let v10 : BitVec 32 := Scalar.remsi v8 c2_i32_3
  let v11 : BitVec 32 := Scalar.muli c2_i32_4 v10
  let v12 : BitVec 32 := Scalar.subi v8 v11
  let c1_i32_5 : BitVec 32 := 1#32
  let v13 : BitVec 32 := Scalar.addi v12 c1_i32_5
  let c1_i32_636 : BitVec 32 := 1#32
  let v853 : BitVec 32 := Scalar.muli v13 c1_i32_636
  let v854 : BitVec 32 := Scalar.addi v852 v853
  v854.toNat
def k0_off6 (d0 : Dev nD) (c0_i32_671 : BitVec 32) : Fin 2 → Nat :=
  let c1_i32_669 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v905 : BitVec 32 := Scalar.subi c1_i32_669 v10
  let c1024_i32_670 : BitVec 32 := 1024#32
  let v906 : BitVec 32 := Scalar.muli v905 c1024_i32_670
  let v907 : BitVec 32 := Scalar.addi v906 c0_i32_671
  let c0_i32_678 : BitVec 32 := 0#32
  ![v907.toNat, 0]
def k0_off7 (d0 : Dev nD) (c0_i32_682 : BitVec 32) : Fin 2 → Nat :=
  let c1_i32_680 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v10 : BitVec 32 := Scalar.remsi v8 c2_i32_3
  let v918 : BitVec 32 := Scalar.subi c1_i32_680 v10
  let c1024_i32_681 : BitVec 32 := 1024#32
  let v919 : BitVec 32 := Scalar.muli v918 c1024_i32_681
  let v920 : BitVec 32 := Scalar.addi v919 c0_i32_682
  let v933 : Index := Scalar.indexCast v920
  let c0_695 : Index := 0#32
  ![v933.toNat, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2048 : Shape := ⟨1, ![2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Form.lean ====
/- The kernel's body as a sequence of four loops.

   The printed body is one long list of memory operations. Here it is written again as a prologue (the barrier), a loop
   that sends the peer's rows along the x axis, a loop that consumes the rows arriving along x and passes them on along z,
   a loop that consumes the rows arriving along z, and a loop that waits for the departures. Each step is a definition in
   the chunk number, so what is proved of a step is proved once. That the two programs are the same is `body_eq`. -/
module

public import proofs.«01_k».proof.Proof.Gen.KernelIdeal.Skeleton

@[expose] public section

noncomputable section

namespace Cert.KernelIdeal.Run

open Idealize.ShloMosaic Idealize.ShloMosaic.TcCoe Idealize.SL.Sem
open Cert.KernelIdeal Facts₀ Facts
open Cert.KernelIdeal.Gen (k0_pay1 k0_pay9 k0_pay35)

variable {F : FTy → Type} [FloatOps F]

/-- Programs of the kernel's body. -/
abbrev KProg (F : FTy → Type) [FloatOps F] := Prog (TpuEff nD τ sig (Elt F) Λ₀ .tc)

/-! ## The buffers and their pieces -/

/-- The partial sums, 4096 rows. -/
abbrev aP : Memref sig .tc .hbm S4096x2048 .f32 := Memref.whole main_v1
/-- The result, 2048 rows. -/
abbrev aO : Memref sig .tc .hbm S2048x2048 .f32 := Memref.whole main_v3
/-- The rows to send along x. -/
abbrev aX : Memref sig .tc .vmem S1024x2048 .bf16 := Memref.whole cc0_scratch0
/-- The rows received. -/
abbrev aR : Memref sig .tc .vmem S2048x2048 .bf16 := Memref.whole cc0_scratch1
/-- Two slots for the rows about to be sent. -/
abbrev aPin : Memref sig .tc .vmem S2x128x2048 .f32 := Memref.whole cc0_scratch2
/-- Two slots for the own rows about to be summed. -/
abbrev aMine : Memref sig .tc .vmem S2x128x2048 .f32 := Memref.whole cc0_scratch3
/-- The finished rows before they are written out. -/
abbrev aBuf : Memref sig .tc .vmem S128x2048 .f32 := Memref.whole cc0_scratch4

/-- The row offset inside a half, as the word the kernel computes with. -/
abbrev ofs (k : ℕ) : BitVec 32 := BitVec.ofNat 32 (128 * k)

/-- 128 rows of the partial sums. -/
abbrev rowP (o : Fin 2 → ℕ) (h : ∀ a, o a + S128x2048.size a ≤ S4096x2048.size a) : Memref sig .tc .hbm S128x2048 .f32 :=
  aP.slice (Rect.unit (s := S4096x2048) o S128x2048.size h) (fun _ => rfl)
/-- 128 rows of the result. -/
abbrev rowO (o : Fin 2 → ℕ) (h : ∀ a, o a + S128x2048.size a ≤ S2048x2048.size a) : Memref sig .tc .hbm S128x2048 .f32 :=
  aO.slice (Rect.unit (s := S2048x2048) o S128x2048.size h) (fun _ => rfl)
/-- 128 rows of the rows received. -/
abbrev rowR (o : Fin 2 → ℕ) (h : ∀ a, o a + S128x2048.size a ≤ S2048x2048.size a) : Memref sig .tc .vmem S128x2048 .bf16 :=
  aR.slice (Rect.unit (s := S2048x2048) o S128x2048.size h) (fun _ => rfl)

theorem inbX (k : Fin 8) : ∀ a, (![128 * k.val, 0] : Fin 2 → ℕ) a + S128x2048.size a ≤ S1024x2048.size a := by
  revert k; decide
theorem wordsX (k : Fin 8) : (Rect.unit (s := S1024x2048) ![128 * k.val, 0] S128x2048.size (inbX k)).WholeWords (EltTy.packing .bf16) :=
  match k with
  | 0 => wordsbf16_S1024x2048_S128x2048_0_0 | 1 => wordsbf16_S1024x2048_S128x2048_128_0
  | 2 => wordsbf16_S1024x2048_S128x2048_256_0 | 3 => wordsbf16_S1024x2048_S128x2048_384_0
  | 4 => wordsbf16_S1024x2048_S128x2048_512_0 | 5 => wordsbf16_S1024x2048_S128x2048_640_0
  | 6 => wordsbf16_S1024x2048_S128x2048_768_0 | 7 => wordsbf16_S1024x2048_S128x2048_896_0
theorem packedX (k : Fin 8) : (Rect.unit (s := S1024x2048) ![128 * k.val, 0] S128x2048.size (inbX k)).PackedRows (EltTy.packing .bf16) :=
  match k with
  | 0 => packedbf16_S1024x2048_S128x2048_0_0 | 1 => packedbf16_S1024x2048_S128x2048_128_0
  | 2 => packedbf16_S1024x2048_S128x2048_256_0 | 3 => packedbf16_S1024x2048_S128x2048_384_0
  | 4 => packedbf16_S1024x2048_S128x2048_512_0 | 5 => packedbf16_S1024x2048_S128x2048_640_0
  | 6 => packedbf16_S1024x2048_S128x2048_768_0 | 7 => packedbf16_S1024x2048_S128x2048_896_0

/-- The rectangle of chunk `k` of the rows to send. -/
abbrev rectX (k : Fin 8) : Rect S1024x2048 := Rect.unit (s := S1024x2048) ![128 * k.val, 0] S128x2048.size (inbX k)
/-- Chunk `k` of the rows to send. -/
abbrev rowX (k : Fin 8) : Memref sig .tc .vmem S128x2048 .bf16 := aX.slice (rectX k) (fun _ => rfl)

theorem inbS (s : Fin 2) : ∀ a, (![s.val, 0, 0] : Fin 3 → ℕ) a + S1x128x2048.size a ≤ S2x128x2048.size a := by
  revert s; decide
/-- The rectangle of slot `s` of a pair of slots. -/
abbrev rectS (s : Fin 2) : Rect S2x128x2048 := Rect.unit (s := S2x128x2048) ![s.val, 0, 0] S1x128x2048.size (inbS s)
/-- Slot `s` of a pair of slots, as a 128-row array. -/
abbrev slot (a : Memref sig .tc .vmem S2x128x2048 .f32) (s : Fin 2) : Memref sig .tc .vmem S128x2048 .f32 :=
  (a.slice (rectS s) (fun _ => rfl)).squeeze S128x2048 squeezes_S1x128x2048_S128x2048

theorem inb8 (k : Fin 8) : ∀ a, (![k.val] : Fin 1 → ℕ) a + S1.size a ≤ S8.size a := by revert k; decide
theorem inb2 (s : Fin 2) : ∀ a, (![s.val] : Fin 1 → ℕ) a + S1.size a ≤ S2.size a := by revert s; decide
/-- Semaphore `k` of eight. -/
abbrev sem8 (a : DmaSems sig S8) (k : Fin 8) : DmaSem sig :=
  ((a.slice (Rect.unit (s := S8) ![k.val] S1.size (inb8 k))).squeeze S_ squeezes_S1_S_).sem
/-- Semaphore `s` of two. -/
abbrev sem2 (a : DmaSems sig S2) (s : Fin 2) : DmaSem sig :=
  ((a.slice (Rect.unit (s := S2) ![s.val] S1.size (inb2 s))).squeeze S_ squeezes_S1_S_).sem
/-- The barrier's semaphore. -/
abbrev barS : Sem sig := (SemArray.scalar (sig.barrier 0 rfl) : Sems sig S_).sem

/-- The device across the x axis. -/
abbrev px (d : Dev nD) : Dev nD := ⟨k0_dev1 d, k0_dev1_lt d⟩
/-- The device paired along the z axis. -/
abbrev pz (d : Dev nD) : Dev nD := ⟨k0_dev2 d, k0_dev2_lt d⟩

/-- The source rows of the `j`-th own chunk: the first eight in the half the device receives along x, the rest in the other. -/
abbrev mineOff (d : Dev nD) (j : Fin 16) : Fin 2 → ℕ := if j.val < 8 then k0_off3 d (ofs j.val) else k0_off5 d (ofs (j.val - 8))
theorem mineOff_inb (d : Dev nD) (j : Fin 16) : ∀ a, mineOff d j a + S128x2048.size a ≤ S4096x2048.size a := by
  unfold mineOff
  split
  · next h => exact k0_off3_inb d ⟨j.val, h⟩
  · next h => exact k0_off5_inb d ⟨j.val - 8, by omega⟩

/-- The parity of a chunk number: the slot it goes through. -/
abbrev par (k : ℕ) : Fin 2 := ⟨k % 2, Nat.mod_lt _ (by decide)⟩

/-! ## The steps -/

/-- Start a copy of 128 rows of the partial sums into a slot. -/
def startIn (o : Fin 2 → ℕ) (h : ∀ a, o a + S128x2048.size a ≤ S4096x2048.size a) (a : Memref sig .tc .vmem S2x128x2048 .f32)
    (sems : DmaSems sig S2) (s : Fin 2) : KProg F PUnit :=
  Prog.lift (.enqueueDma (rowP o h) (.here (slot a s)) (.dma (sem2 sems s)) (View.wordExact_bits rfl)
    ((View.wordExact_bits rfl).reshape _ _) ⟨Or.inl rfl, trivial⟩)
/-- Wait for it. -/
def waitIn (o : Fin 2 → ℕ) (h : ∀ a, o a + S128x2048.size a ≤ S4096x2048.size a) (a : Memref sig .tc .vmem S2x128x2048 .f32)
    (sems : DmaSems sig S2) (s : Fin 2) : KProg F PUnit :=
  Prog.lift (.waitDma2 (sem2 sems s) (rowP o h) (slot a s) (View.wordExact_bits rfl) ((View.wordExact_bits rfl).reshape _ _))

def startPin (d : Dev nD) (k : Fin 8) : KProg F PUnit := startIn (k0_off1 d (ofs k.val)) (k0_off1_inb d k) aPin cc0_scratch9 (par k.val)
def waitPin (d : Dev nD) (k : Fin 8) : KProg F PUnit := waitIn (k0_off1 d (ofs k.val)) (k0_off1_inb d k) aPin cc0_scratch9 (par k.val)
def startMine (d : Dev nD) (j : Fin 16) : KProg F PUnit := startIn (mineOff d j) (mineOff_inb d j) aMine cc0_scratch10 (par j.val)
def waitMine (d : Dev nD) (j : Fin 16) : KProg F PUnit := waitIn (mineOff d j) (mineOff_inb d j) aMine cc0_scratch10 (par j.val)

/-- Convert the rows in the slot and store them among the rows to send. -/
def pack (k : Fin 8) : KProg F PUnit := do
  let v ← Prog.lift (.load aPin (rectS (par k.val)).toLoadRect (View.loadsAt_vmem h_S1x128x2048))
  let _ ← Prog.lift (.load aX (rectX k).toLoadRect (View.loadsAt_vmem h_S128x2048))
  Prog.lift (.store aX (rectX k) (k0_pay1 v) Finset.univ
    (View.stores_vmem h_S128x2048 ((Memref.isWhole_whole _).storeExact_slice rfl _ (packedX k)) (fun _ => rfl)) (.inl rfl))

/-- Send chunk `k` along x. -/
def sendX (d : Dev nD) (k : Fin 8) : KProg F PUnit :=
  Prog.lift (.enqueueDma (rowX k) (.remote (Dev.tc (px d)) (rowR (k0_off2 d (ofs k.val)) (k0_off2_inb d k)) (.dma (sem8 cc0_scratch5 k)))
    (.dma (sem8 cc0_scratch6 k)) ((Memref.isWhole_whole _).wordExact_slice rfl _ (wordsX k))
    ((Memref.isWhole_whole _).wordExact_slice rfl _ (k0_off2_wordsbf16 d k)) ⟨⟨rfl, Or.inl rfl⟩, trivial⟩)
/-- Wait for chunk `k` along x. -/
def waitX (d : Dev nD) (k : Fin 8) : KProg F PUnit :=
  Prog.lift (.waitDma2 (sem8 cc0_scratch6 k) (rowX k) (rowR (k0_off2 d (ofs k.val)) (k0_off2_inb d k))
    ((Memref.isWhole_whole _).wordExact_slice rfl _ (wordsX k)) ((Memref.isWhole_whole _).wordExact_slice rfl _ (k0_off2_wordsbf16 d k)))
/-- Pass chunk `k` on along z. -/
def sendZ (d : Dev nD) (k : Fin 8) : KProg F PUnit :=
  Prog.lift (.enqueueDma (rowR (k0_off2 d (ofs k.val)) (k0_off2_inb d k))
    (.remote (Dev.tc (pz d)) (rowR (k0_off2 d (ofs k.val)) (k0_off2_inb d k)) (.dma (sem8 cc0_scratch7 k)))
    (.dma (sem8 cc0_scratch8 k)) ((Memref.isWhole_whole _).wordExact_slice rfl _ (k0_off2_wordsbf16 d k))
    ((Memref.isWhole_whole _).wordExact_slice rfl _ (k0_off2_wordsbf16 d k)) ⟨⟨rfl, Or.inl rfl⟩, trivial⟩)
/-- Wait for chunk `k` along z. -/
def waitZ (d : Dev nD) (k : Fin 8) : KProg F PUnit :=
  Prog.lift (.waitDma2 (sem8 cc0_scratch8 k) (rowR (k0_off6 d (ofs k.val)) (k0_off6_inb d k)) (rowR (k0_off6 d (ofs k.val)) (k0_off6_inb d k))
    ((Memref.isWhole_whole _).wordExact_slice rfl _ (k0_off6_wordsbf16 d k)) ((Memref.isWhole_whole _).wordExact_slice rfl _ (k0_off6_wordsbf16 d k)))
/-- Wait until chunk `k` has left along x. -/
def leftX (d : Dev nD) (k : Fin 8) : KProg F PUnit :=
  Prog.lift (.waitDma2 (sem8 cc0_scratch5 k) (rowR (k0_off2 d (ofs k.val)) (k0_off2_inb d k)) (rowX k)
    ((Memref.isWhole_whole _).wordExact_slice rfl _ (k0_off2_wordsbf16 d k)) ((Memref.isWhole_whole _).wordExact_slice rfl _ (wordsX k)))
/-- Wait until chunk `k` has left along z. -/
def leftZ (d : Dev nD) (k : Fin 8) : KProg F PUnit :=
  Prog.lift (.waitDma2 (sem8 cc0_scratch7 k) (rowR (k0_off2 d (ofs k.val)) (k0_off2_inb d k)) (rowR (k0_off2 d (ofs k.val)) (k0_off2_inb d k))
    ((Memref.isWhole_whole _).wordExact_slice rfl _ (k0_off2_wordsbf16 d k)) ((Memref.isWhole_whole _).wordExact_slice rfl _ (k0_off2_wordsbf16 d k)))

/-- Read the own rows of a slot. -/
def readMine (s : Fin 2) : KProg F (Vec F S1x128x2048 .f32) :=
  Prog.lift (.load aMine (rectS s).toLoadRect (View.loadsAt_vmem h_S1x128x2048))
/-- Read 128 of the rows received. -/
def readR (o : Fin 2 → ℕ) (h : ∀ a, o a + S128x2048.size a ≤ S2048x2048.size a) : KProg F (Vec F S128x2048 .bf16) :=
  Prog.lift (.load aR (Rect.unit (s := S2048x2048) o S128x2048.size h).toLoadRect (View.loadsAt_vmem h_S128x2048))

/-- Store finished rows in their buffer. -/
def fill (w : Vec F S128x2048 .f32) : KProg F PUnit := do
  let _ ← Prog.lift (.load aBuf (Rect.unit (s := S128x2048) ![0, 0] S128x2048.size inb_S128x2048_S128x2048_0_0).toLoadRect (View.loadsAt_vmem h_S128x2048))
  Prog.lift (.store aBuf (Rect.unit (s := S128x2048) ![0, 0] S128x2048.size inb_S128x2048_S128x2048_0_0) w Finset.univ
    (View.stores_vmem_bits_univ h_S128x2048 rfl) (.inl rfl))
/-- Start the copy of the finished rows to the result. -/
def startOut (o : Fin 2 → ℕ) (h : ∀ a, o a + S128x2048.size a ≤ S2048x2048.size a) : KProg F PUnit :=
  Prog.lift (.enqueueDma aBuf (.here (rowO o h)) (.dma cc0_scratch11.sem) (Memref.isWhole_whole _).wordExact (View.wordExact_bits rfl) ⟨Or.inl rfl, trivial⟩)
/-- Wait for it. -/
def waitOut (o : Fin 2 → ℕ) (h : ∀ a, o a + S128x2048.size a ≤ S2048x2048.size a) : KProg F PUnit :=
  Prog.lift (.waitDma2 cc0_scratch11.sem aBuf (rowO o h) (Memref.isWhole_whole _).wordExact (View.wordExact_bits rfl))
/-- Store the finished rows, and copy them to the result. -/
def emit (gam : FVec F S1x2048 .f32) (mine : Vec F S1x128x2048 .f32) (got : Vec F S128x2048 .bf16)
    (o : Fin 2 → ℕ) (h : ∀ a, o a + S128x2048.size a ≤ S2048x2048.size a) : KProg F PUnit := do
  fill (k0_pay35 gam mine got)
  startOut o h
  waitOut o h

/-- A chunk of the send loop that is not the last. -/
def stepA (d : Dev nD) (k : Fin 7) : KProg F PUnit := do
  startPin d ⟨k.val + 1, by omega⟩
  pack ⟨k.val, by omega⟩
  sendX d ⟨k.val, by omega⟩
  waitPin d ⟨k.val + 1, by omega⟩
/-- A chunk that arrived along x. -/
def stepB (gam : FVec F S1x2048 .f32) (d : Dev nD) (k : Fin 8) : KProg F PUnit := do
  waitX d k
  sendZ d k
  waitMine d ⟨k.val, by omega⟩
  let mine ← readMine (par k.val)
  let got ← readR (k0_off4 d (ofs k.val)) (k0_off4_inb d k)
  startMine d ⟨k.val + 2, by omega⟩
  emit gam mine got (k0_off2 d (ofs k.val)) (k0_off2_inb d k)
/-- A chunk that arrived along z, with more own rows to fetch. -/
def stepC (gam : FVec F S1x2048 .f32) (d : Dev nD) (k : Fin 6) : KProg F PUnit := do
  waitZ d ⟨k.val, by omega⟩
  waitMine d ⟨k.val + 8, by omega⟩
  let mine ← readMine (par k.val)
  let got ← readR (k0_off7 d (ofs k.val)) (k0_off7_inb d ⟨k.val, by omega⟩)
  startMine d ⟨k.val + 10, by omega⟩
  emit gam mine got (k0_off6 d (ofs k.val)) (k0_off6_inb d ⟨k.val, by omega⟩)
/-- One of the last two. -/
def stepC' (gam : FVec F S1x2048 .f32) (d : Dev nD) (k : Fin 2) : KProg F PUnit := do
  waitZ d ⟨k.val + 6, by omega⟩
  waitMine d ⟨k.val + 14, by omega⟩
  let mine ← readMine (par k.val)
  let got ← readR (k0_off7 d (ofs (k.val + 6))) (k0_off7_inb d ⟨k.val + 6, by omega⟩)
  emit gam mine got (k0_off6 d (ofs (k.val + 6))) (k0_off6_inb d ⟨k.val + 6, by omega⟩)
/-- Chunk `k` has left. -/
def stepD (d : Dev nD) (k : Fin 8) : KProg F PUnit := do
  leftX d k
  leftZ d k

/-- The steps `0, …, n - 1` in order. -/
def times (n : ℕ) (f : Fin n → KProg F PUnit) : KProg F PUnit :=
  match n with
  | 0 => pure ⟨⟩
  | n + 1 => f 0 >>= fun _ => times n fun k => f k.succ

/-- The barrier: tell both peers, wait for both. -/
def meet (d : Dev nD) : KProg F PUnit := do
  semSignalWord (px d) barS 1#32
  semSignalWord (pz d) barS 1#32
  semWaitWord barS 2#32

/-- Everything after the barrier. -/
def rest (aG : Memref sig .tc .vmem S1x2048 .f32) (d : Dev nD) : KProg F PUnit := do
  startPin d 0
  waitPin d 0
  times 7 (stepA d)
  pack 7
  sendX d 7
  let g ← Prog.lift (.load aG (Rect.unit (s := S1x2048) ![0, 0] S1x2048.size inb_S1x2048_S1x2048_0_0).toLoadRect (View.loadsAt_vmem h_S1x2048))
  startMine d 0
  startMine d 1
  times 8 (stepB (k0_pay9 g) d)
  times 6 (stepC (k0_pay9 g) d)
  times 2 (stepC' (k0_pay9 g) d)
  times 8 (stepD d)

/-- The body. -/
def form (aG : Memref sig .tc .vmem S1x2048 .f32) : KProg F PUnit := do
  let d ← Prog.lift .deviceId
  meet d
  rest aG d

end Cert.KernelIdeal.Run

end
-- ==== Proof.Sched.lean ====
/- The protocol between the devices: who pays what to whom, and in which order.

   A device has one barrier cell and four families of eight cells: chunk `k` has left along x (0), has arrived along x (1),
   has left along z (2), has arrived along z (3). The peer along x, telling a device that it has reached the barrier, hands
   over the half of its receive buffer that the device is going to write; the peer along z does the same. -/
module

public import proofs.«01_k».proof.Proof.Form
public import proofs.«01_k».proof.Proof.Gen.KernelIdeal
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Rounds.Family
public import Idealize.ShloMosaic.Lib.StableHlo
public import Idealize.ShloMosaic.Lib.Tactic
public import Idealize.ShloMosaic.Lib.MemrefSat
public import Idealize.ShloMosaic.Lib.Transfers

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

/-! ## The peers and the rows -/

theorem px_px (d : Dev nD) : px (px d) = d := by revert d; decide
theorem pz_pz (d : Dev nD) : pz (pz d) = d := by revert d; decide
theorem pz_ne (d : Dev nD) : pz d ≠ d := by revert d; decide
theorem px_pz (d : Dev nD) : px (pz d) = pz (px d) := by revert d; decide

/-- The rows of chunk `k` in the half received along x. -/
abbrev nearO (d : Dev nD) (k : Fin 8) : Fin 2 → ℕ := k0_off2 d (ofs k.val)
/-- The rows of chunk `k` in the half received along z. -/
abbrev farO (d : Dev nD) (k : Fin 8) : Fin 2 → ℕ := k0_off6 d (ofs k.val)

theorem nearO_eq (d : Dev nD) (k : Fin 8) : nearO d k = ![128 * (8 * (d.val % 4 % 2) + k.val), 0] :=
  (Gen.k0_off2_eq d k).trans (by congr 1; omega)
theorem farO_eq (d : Dev nD) (k : Fin 8) : farO d k = ![128 * (8 * (1 - d.val % 4 % 2) + k.val), 0] :=
  (Gen.k0_off6_eq d k).trans (by congr 1; omega)
theorem off4_near (d : Dev nD) (k : Fin 8) : k0_off4 d (ofs k.val) = nearO d k :=
  (Gen.k0_off4_eq d k).trans (Gen.k0_off2_eq d k).symm
theorem off7_far (d : Dev nD) (k : Fin 8) : k0_off7 d (ofs k.val) = farO d k :=
  (Gen.k0_off7_eq d k).trans (Gen.k0_off6_eq d k).symm
theorem near_px (d : Dev nD) (k : Fin 8) : nearO (px d) k = nearO d k := by
  rw [nearO_eq, nearO_eq, show (px d).val % 4 % 2 = d.val % 4 % 2 by revert d; decide]
theorem far_pz (d : Dev nD) (k : Fin 8) : farO (pz d) k = nearO d k := by
  rw [nearO_eq, farO_eq, show 1 - (pz d).val % 4 % 2 = d.val % 4 % 2 by revert d; decide]

/-- Chunk `k` of the half received along x. -/
abbrev near (d : Dev nD) (k : Fin 8) : Memref sig .tc .vmem S128x2048 .bf16 := rowR (nearO d k) (k0_off2_inb d k)
/-- Chunk `k` of the half received along z. -/
abbrev far (d : Dev nD) (k : Fin 8) : Memref sig .tc .vmem S128x2048 .bf16 := rowR (farO d k) (k0_off6_inb d k)

theorem rowR_congr {o o' : Fin 2 → ℕ} (h : ∀ a, o a + S128x2048.size a ≤ S2048x2048.size a)
    (h' : ∀ a, o' a + S128x2048.size a ≤ S2048x2048.size a) (e : o = o') : rowR o h = rowR o' h' := by subst e; rfl
theorem nearM_px (d : Dev nD) (k : Fin 8) : near (px d) k = near d k := rowR_congr _ _ (near_px d k)
theorem farM_pz (d : Dev nD) (k : Fin 8) : far (pz d) k = near d k := rowR_congr _ _ (far_pz d k)

/-! ## Cells -/

/-- The four families of semaphores. -/
abbrev fam (i : Fin 4) : DmaSems sig S8 := match i with | 0 => cc0_scratch5 | 1 => cc0_scratch6 | 2 => cc0_scratch7 | 3 => cc0_scratch8
/-- Semaphore `k` of family `i`. -/
abbrev fsem (i : Fin 4) (k : Fin 8) : DmaSem sig := sem8 (fam i) k
theorem fsem_val (i : Fin 4) (k : Fin 8) : (fsem i k).val = 1 + 8 * i.val + k.val := by revert i k; decide

abbrev barCell (c : Dev nD) : GSem nD τ sig := ((c : Thread nD τ), .reg barS)
abbrev cell (c : Dev nD) (i : Fin 4) (k : Fin 8) : GSem nD τ sig := ((c : Thread nD τ), .dma (fsem i k))

theorem fsem_inj {i i' : Fin 4} {k k' : Fin 8} (h : fsem i k = fsem i' k') : i = i' ∧ k = k' := by
  have := congrArg Fin.val h; rw [fsem_val, fsem_val] at this
  exact ⟨Fin.ext (by omega), Fin.ext (by omega)⟩
theorem cell_inj {c c' : Dev nD} {i i' : Fin 4} {k k' : Fin 8} (h : cell c i k = cell c' i' k') : c = c' ∧ i = i' ∧ k = k' := by
  have h1 := congrArg (fun g : GSem nD τ sig => g.1.1) h
  have h2 := congrArg (fun g : GSem nD τ sig => g.2) h
  exact ⟨h1, fsem_inj (SemLoc.dma.inj h2)⟩

/-- What a remote copy of a chunk credits. -/
abbrev N : ℕ := (rowX 0).view.dmaCredit
theorem N_pos : 0 < N := View.dmaCredit_pos _ (by decide)
theorem N_far (d : Dev nD) (k : Fin 8) : (far d k).view.dmaCredit = N := rfl
theorem N_near (d : Dev nD) (k : Fin 8) : (near d k).view.dmaCredit = N := rfl
theorem N_row (k : Fin 8) : (rowX k).view.dmaCredit = N := rfl

/-! ## The resource algebra -/

/-- The pipeline library's copy, the protocol's rounds, and the counters of the local copies. -/
abbrev UU : Type := UR sig nD τ × (URounds (GSem nD τ sig) Bool × Counters)

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) :=
  (Emb.inl : Emb (URounds (GSem nD τ sig) Bool) (URounds (GSem nD τ sig) Bool × Counters)).trans embR
abbrev EC : UEmb Counters (MT nD τ sig Unit (Elt F) ℕ UU ℕ) := countersEmb (U := UU)

/-! ## The schedule -/

/-- The chunks the devices send along x. -/
abbrev Sent (F : FTy → Type) := Dev nD → Fin 8 → Vec F S128x2048 .bf16

/-- What the peer along x (`false`) or along z (`true`) of device `c` hands over at the barrier: the rows of its receive
    buffer that `c` writes, and that its cells for them are open. -/
def barPay (c : Dev nD) (b : Bool) : sProp 𝕄 :=
  match b with
  | false => bigSep Finset.univ fun k => iprop((∃ v, owns (px c : Thread nD τ) (near c k) fullShare v) ∗ reached ER (cell (px c) 1 k) 0)
  | true => bigSep Finset.univ fun k => iprop((∃ v, owns (pz c : Thread nD τ) (near c k) fullShare v) ∗ reached ER (cell (pz c) 3 k) 0)

/-- What a landing on cell `k` of family `i` of device `c` hands over. -/
def dmaPay (X : Sent F) (c : Dev nD) (i : Fin 4) (k : Fin 8) : sProp 𝕄 :=
  match i with
  | 0 => owns (c : Thread nD τ) (rowX k) fullShare (X c k)
  | 1 => owns (c : Thread nD τ) (near c k) fullShare (X (px c) k)
  | 2 => owns (c : Thread nD τ) (near c k) (fullShare : PosShare TreeShare).right (X (px c) k)
  | 3 => owns (c : Thread nD τ) (far c k) fullShare (X (px (pz c)) k)

/-- The family of a semaphore, and its number there. -/
abbrev famOf (s : DmaSem sig) : Fin 4 := ⟨(s.val - 1) / 8 % 4, Nat.mod_lt _ (by decide)⟩
abbrev numOf (s : DmaSem sig) : Fin 8 := ⟨(s.val - 1) % 8, Nat.mod_lt _ (by decide)⟩
theorem famOf_fsem (i : Fin 4) (k : Fin 8) : famOf (fsem i k) = i := Fin.ext (by simp only [fsem_val]; omega)
theorem numOf_fsem (i : Fin 4) (k : Fin 8) : numOf (fsem i k) = k := Fin.ext (by simp only [fsem_val]; omega)

/-- One round on every cell: two duties of one unit on a barrier, one of a chunk's credit on the rest. -/
def rd (X : Sent F) : Rounds.Schedule (GSem nD τ sig) Bool 𝕄 where
  duties g r := if r = 0 ∧ g.1.2 = .tc then (match g.2 with
    | .reg s => if s = barS then Finset.univ else ∅
    | .dma s => if 1 ≤ s.val ∧ s.val ≤ 32 then {false} else ∅) else ∅
  unitless _ := False
  amount g _ _ := match g.2 with | .reg _ => 1 | .dma _ => N
  payload g _ b := match g.2 with | .reg _ => barPay g.1.1 b | .dma s => dmaPay X g.1.1 (famOf s) (numOf s)
  amount_pos g _ _ _ := by
    rcases g with ⟨t, s | s⟩
    · exact Nat.one_pos
    · exact N_pos

instance barPay_storable (c : Dev nD) (b : Bool) : BI.Storable (upEmb : UEmb _ 𝕄) (barPay (F := F) c b) := by
  unfold barPay; cases b <;> dsimp only <;> infer_instance
instance dmaPay_storable (X : Sent F) (c : Dev nD) (i : Fin 4) (k : Fin 8) : BI.Storable (upEmb : UEmb _ 𝕄) (dmaPay X c i k) := by
  unfold dmaPay; split <;> infer_instance
instance rd_payload_storable (X : Sent F) (g : GSem nD τ sig) (r : ℕ) (b : Bool) :
    BI.Storable (upEmb : UEmb _ 𝕄) ((rd X).payload g r b) := by
  rcases g with ⟨t, s | s⟩
  · exact barPay_storable _ _
  · exact dmaPay_storable _ _ _ _

section Tables

variable (X : Sent F) (c : Dev nD) (i : Fin 4) (k : Fin 8)

theorem duties_bar : (rd X).duties (barCell c) 0 = Finset.univ := by
  dsimp only [rd]; rw [if_pos ⟨rfl, rfl⟩, if_pos rfl]
theorem duties_cell : (rd X).duties (cell c i k) 0 = {false} := by
  dsimp only [rd]; rw [if_pos ⟨rfl, rfl⟩, if_pos]; rw [fsem_val]; omega
theorem duties_later (g : GSem nD τ sig) : ∀ r, 1 ≤ r → (rd X).duties g r = ∅ :=
  fun r hr => by dsimp only [rd]; rw [if_neg (fun h => by omega)]
theorem payload_bar (b : Bool) : (rd X).payload (barCell c) 0 b = barPay c b := rfl
theorem payload_cell (b : Bool) : (rd X).payload (cell c i k) 0 b = dmaPay X c i k := by
  dsimp only [rd]; rw [famOf_fsem, numOf_fsem]
theorem amount_bar (b : Bool) : (rd X).amount (barCell c) 0 b = 1 := rfl
theorem amount_cell (b : Bool) : (rd X).amount (cell c i k) 0 b = N := rfl
theorem expect_bar : (rd X).expect (barCell c) 0 = 2 := by
  unfold Schedule.expect Schedule.amountOf; rw [duties_bar]; rfl
theorem expect_cell : (rd X).expect (cell c i k) 0 = N := by
  unfold Schedule.expect Schedule.amountOf; rw [duties_cell, Finset.sum_singleton, amount_cell]
theorem rest_bar : bigSep ((rd X).duties (barCell c) 0 \ ∅) (fun b => (rd X).payload (barCell c) 0 b)
    = iprop(barPay (F := F) c false ∗ barPay c true) := by
  rw [Finset.sdiff_empty, duties_bar]
  exact bigSep_univ_eq_bigSepL [false, true] (by decide) (by decide) _
theorem rest_cell : bigSep ((rd X).duties (cell c i k) 0 \ ∅) (fun b => (rd X).payload (cell c i k) 0 b) = dmaPay X c i k := by
  rw [Finset.sdiff_empty, duties_cell, bigSep_singleton, payload_cell]

end Tables

/-! ## What each device owes; the levels -/

/-- The chunk numbers not below `n`. -/
def From (n : ℕ) : Finset (Fin 8) := Finset.univ.filter (n ≤ ·.val)
theorem from_zero : From 0 = Finset.univ := by decide
theorem from_end : From 8 = ∅ := by decide
theorem from_insert (k : Fin 8) : From k.val = insert k (From (k.val + 1)) := by revert k; decide
theorem from_notMem (k : Fin 8) : k ∉ From (k.val + 1) := by revert k; decide

/-- What is left to send along x from chunk `a` on and along z from chunk `b` on. -/
def owedX (c : Dev nD) (a : ℕ) : CellTallies nD τ sig Unit := ∑ k ∈ From a, tallyAt (cell (px c) 1 k) () N
def owedZ (c : Dev nD) (b : ℕ) : CellTallies nD τ sig Unit := ∑ k ∈ From b, tallyAt (cell (pz c) 3 k) () N
def owed (c : Dev nD) (a b : ℕ) : CellTallies nD τ sig Unit := owedX c a + owedZ c b

theorem owed_x (c : Dev nD) (k : Fin 8) (b : ℕ) : owed c k.val b = owed c (k.val + 1) b + tallyAt (cell (px c) 1 k) () N := by
  unfold owed owedX; rw [from_insert, Finset.sum_insert (from_notMem k), add_comm (tallyAt _ _ _), add_right_comm]
theorem owed_z (c : Dev nD) (a : ℕ) (k : Fin 8) : owed c a k.val = owed c a (k.val + 1) + tallyAt (cell (pz c) 3 k) () N := by
  unfold owed owedZ; rw [from_insert, Finset.sum_insert (from_notMem k), add_comm (tallyAt _ _ _), add_assoc]
theorem owed_done (c : Dev nD) : owed c 8 8 = 0 := by
  unfold owed owedX owedZ; rw [from_end, Finset.sum_empty, Finset.sum_empty, add_zero]

/-- What a device owes at launch. -/
def O₀ (c : Dev nD) : CellTallies nD τ sig Unit := owed c 0 0 + tallyAt (barCell (pz c)) () 1 + tallyAt (barCell (px c)) () 1

def L (g : GSem nD τ sig) : Finset Unit := if g.1.2 = .tc then {()} else ∅
/-- The barrier at 1, arrivals along x at 2, arrivals along z at 3, the rest at 0. -/
def lv (g : GSem nD τ sig) (_ : Unit) : ℕ := match g.2 with
  | .reg _ => 1
  | .dma s => if 9 ≤ s.val ∧ s.val ≤ 16 then 2 else if 25 ≤ s.val ∧ s.val ≤ 32 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_x (c : Dev nD) (k : Fin 8) : lv (cell c 1 k) () = 2 := by
  dsimp only [lv]; rw [if_pos]; rw [fsem_val]; constructor <;> simp <;> omega
theorem lv_z (c : Dev nD) (k : Fin 8) : lv (cell c 3 k) () = 3 := by
  dsimp only [lv]; rw [if_neg, if_pos] <;> rw [fsem_val] <;> simp <;> omega

theorem pos_tallies {ι : Type} {S : Finset ι} {G : ι → GSem nD τ sig} {n : ℕ} {g : GSem nD τ sig} {u : Unit}
    (h : 0 < (∑ k ∈ S, tallyAt (G k) () n : CellTallies nD τ sig Unit) g u) : ∃ k ∈ S, g = G k := by
  by_contra hn
  push Not at hn
  rw [Finset.sum_apply, Finsupp.finset_sum_apply, Finset.sum_eq_zero] at h
  · exact absurd h (Nat.lt_irrefl 0)
  · intro k hk; rw [tallyAt_apply, if_neg (fun e => hn k hk e.1)]

theorem owed_pos {c : Dev nD} {a b : ℕ} {g : GSem nD τ sig} {u : Unit} (h : 0 < owed c a b g u) :
    (∃ k ∈ From a, g = cell (px c) 1 k) ∨ (∃ k ∈ From b, g = cell (pz c) 3 k) := by
  have h' : 0 < owedX c a g u + owedZ c b g u := h
  rcases Nat.eq_zero_or_pos (owedX c a g u) with e | e
  · right; exact pos_tallies (by rw [e, Nat.zero_add] at h'; exact h')
  · left; exact pos_tallies e

/-- A device may wait on a cell of level at most `n` while everything it owes is above `n`. -/
theorem mayWait_owed (c : Dev nD) (sm : SemLoc sig) (a b n : ℕ) (hn : lv ((c : Thread nD τ), sm) () ≤ n)
    (ha : a = 8 ∨ n < 2) (hb : b = 8 ∨ n < 3) :
    (levAts L lv : sProp 𝕄) ⊢ MayWait (c : Thread nD τ) sm () (owed c a b) :=
  MayOwe.of_cut (L := L) (lev := lv) n (fun p hp => by rw [Finset.mem_singleton.mp hp, L_tc]; exact Finset.mem_singleton_self _)
    (fun g u hg => by
      rcases owed_pos hg with ⟨k, -, rfl⟩ | ⟨k, -, rfl⟩ <;> · rw [L_tc]; exact Finset.mem_singleton_self _)
    (fun p hp => by rw [Finset.mem_singleton.mp hp]; exact hn)
    (fun g u hg => by
      rcases owed_pos hg with ⟨k, hk, rfl⟩ | ⟨k, hk, rfl⟩
      · rw [lv_x]
        rcases ha with rfl | ha
        · rw [from_end] at hk; exact absurd hk (Finset.notMem_empty _)
        · exact ha
      · rw [lv_z]
        rcases hb with rfl | hb
        · rw [from_end] at hk; exact absurd hk (Finset.notMem_empty _)
        · exact hb)

end Cert.KernelIdeal.Run

end
-- ==== Proof.Steps.lean ====
/- What the single steps of the body do: a load, a store, a copy into a slot and its wait, the result rows written out.

   Contents are named through the memref that owns them. Two slots hold the rows copied in; a slot is read as a block with
   a leading unit axis, so `up` gives the same rows with that axis. -/
module

public import proofs.«01_k».proof.Proof.Sched

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open Cert.KernelIdeal.Gen (k0_pay1 k0_pay9 k0_pay35)

variable {F : FTy → Type} [FloatOps F]

local notation "𝕄" => MT nD τ sig Unit (Elt F) ℕ UU ℕ

abbrev 𝒱₀ : Variants := Variants.none

/-- A program of the body, run on device `c`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What a program does, used at the head of a longer one. -/
theorem step {α β : Type} {c : Dev nD} {p : Prog (TpuEff nD τ sig (Elt F) Λ₀ .tc) α} {A : sProp 𝕄} {B : α → sProp 𝕄}
    (h : A ⊢ Runs c p B) {k : α → Prog (TpuEff nD τ sig (Elt F) Λ₀ .tc) β} {Q : β → sProp 𝕄} :
    A ⊢ iprop((∀ a, B a -∗ Runs c (k a) Q) -∗ Runs c (p >>= k) Q) := by
  rw [Runs, wp_bind_eq]
  exact h.trans (wp_wand _ _ _)

/-- The same where the program is the whole. -/
theorem last {α : Type} {c : Dev nD} {p : Prog (TpuEff nD τ sig (Elt F) Λ₀ .tc) α} {A : sProp 𝕄} {B : α → sProp 𝕄}
    (h : A ⊢ Runs c p B) {Q : α → sProp 𝕄} :
    A ⊢ iprop((∀ a, B a -∗ Q a) -∗ Runs c p Q) := h.trans (wp_wand _ _ _)

/-- A loop, by what holds before each of its steps. -/
theorem loop {c : Dev nD} {n : ℕ} {f : Fin n → KProg F PUnit} (I : ℕ → sProp 𝕄)
    (h : ∀ k : Fin n, I k.val ⊢ Runs c (f k) (fun _ => I (k.val + 1))) : I 0 ⊢ Runs c (times n f) (fun _ => I n) := by
  induction n generalizing I with
  | zero => exact fupd_intro
  | succ n ih =>
    show I 0 ⊢ Runs c (f 0 >>= fun _ => times n fun k => f k.succ) (fun _ => I (n + 1))
    rw [Runs, wp_bind_eq]
    exact (h 0).trans (wp_mono _ _ _ fun _ => ih (fun m => I (m + 1)) fun k => h k.succ)

/-! ## Loads and stores -/

theorem load_ok (c : Dev nD) {sp : CoreSpace} {s : Shape} {e : EltTy} (a : Memref sig .tc sp s e) (r : Rect s)
    (hr : ∀ i, r.stride i = 1) (hl : a.view.LoadsAt r.toLoadRect) (q : PosShare TreeShare) (X : r.shape.Idx → Elt F e) :
    owns (c : Thread nD τ) (a.slice r hr) q X
      ⊢ Runs c (Prog.lift (.load a r.toLoadRect hl)) (fun v => iprop(⌜v = X⌝ ∗ owns (c : Thread nD τ) (a.slice r hr) q X)) := by
  unfold owns
  iintro ⟨%f, %hf, H⟩
  iapply (wp_load_rect 𝒱₀ (c : Thread nD τ) none Set.univ (S := (a.slice r hr).view.set) (q := q) (f := f) (le_refl _)) $$ H
  iintro H
  rw [wp_ret]; imodintro
  isplitr; · ipureintro; exact hf
  iexists f; isplitr; · ipureintro; exact hf
  iexact H

theorem store_ok (c : Dev nD) {sp : CoreSpace} {s : Shape} {e : EltTy} (a : Memref sig .tc sp s e) (r : Rect s)
    (hr : ∀ i, r.stride i = 1) (w : r.shape.Idx → Elt F e) (hx : (a.access r).Stores Finset.univ)
    (hm : (Finset.univ : Finset r.shape.Idx) = Finset.univ ∨ ∀ i, r.stride i = 1) :
    iprop(∃ v : r.shape.Idx → Elt F e, owns (c : Thread nD τ) (a.slice r hr) fullShare v)
      ⊢ Runs c (Prog.lift (.store a r w Finset.univ hx hm)) (fun _ => owns (c : Thread nD τ) (a.slice r hr) fullShare w) := by
  unfold owns
  iintro ⟨%v, %f, -, H⟩
  iapply (wp_store 𝒱₀ (c : Thread nD τ) none Set.univ (S := (a.slice r hr).view.set) (f := f) (le_refl _)) $$ H
  iintro H
  rw [wp_ret]; imodintro
  iexists ((a.access r).write (Elt F) f w Finset.univ); isplitr
  · ipureintro; exact View.read_write_univ _ _
  iexact H

/-! ## A slot, read as a block -/

/-- Rows with a leading unit axis. -/
def up (X : Vec F S128x2048 .f32) : Vec F S1x128x2048 .f32 :=
  fun y => X ((Shape.reshapeEquiv squeezes_S1x128x2048_S128x2048.numel_eq).symm y)

theorem owns_slot (c : Dev nD) (a : Memref sig .tc .vmem S2x128x2048 .f32) (s : Fin 2) (q : PosShare TreeShare) (X : Vec F S128x2048 .f32) :
    (owns (c : Thread nD τ) (slot a s) q X : sProp 𝕄) = owns (c : Thread nD τ) (a.slice (rectS s) (fun _ => rfl)) q (up X) := by
  have hread (f : a.view.ty.Contents (Elt F)) : (slot a s).view.read (Elt F) f = X ↔ (a.slice (rectS s) (fun _ => rfl)).view.read (Elt F) f = up X := by
    have h : (slot a s).view.read (Elt F) f
        = fun x => (a.slice (rectS s) (fun _ => rfl)).view.read (Elt F) f (Shape.reshapeEquiv squeezes_S1x128x2048_S128x2048.numel_eq x) := rfl
    rw [h]
    constructor
    · rintro rfl
      exact funext fun y => congrArg ((a.slice (rectS s) (fun _ => rfl)).view.read (Elt F) f) (Equiv.apply_symm_apply _ y).symm
    · intro h'
      rw [h']
      exact funext fun x => congrArg X (Equiv.symm_apply_apply _ x)
  have hset : (slot a s).view.set = (a.slice (rectS s) (fun _ => rfl)).view.set := Memref.set_view_squeeze _ _
  unfold owns
  rw [hset]
  simp only [hread]

theorem readSlot_ok (c : Dev nD) (a : Memref sig .tc .vmem S2x128x2048 .f32) (s : Fin 2) (q : PosShare TreeShare) (X : Vec F S128x2048 .f32)
    (hl : a.view.LoadsAt (rectS s).toLoadRect) :
    (owns (c : Thread nD τ) (slot a s) q X : sProp 𝕄)
      ⊢ Runs c (Prog.lift (.load a (rectS s).toLoadRect hl)) (fun v => iprop(⌜v = up X⌝ ∗ owns (c : Thread nD τ) (slot a s) q X)) := by
  rw [owns_slot]
  exact load_ok c a (rectS s) (fun _ => rfl) hl q (up X)

/-! ## Copies into a slot -/

/-- What is left to pay, whatever has been waited for. -/
def Owes (c : Dev nD) (a b : ℕ) : sProp 𝕄 := iprop(∃ W, owes (c : Thread nD τ) (owed c a b) W)

/-- A share of the partial sums of device `c`. -/
abbrev src (c : Dev nD) (q : PosShare TreeShare) (P : main_v1.ty.Contents (Elt F)) : sProp 𝕄 := aP.view.loc (c : Thread nD τ) ↦{q} P

/-- 128 rows of partial sums `P`. -/
abbrev rows (P : main_v1.ty.Contents (Elt F)) (o : Fin 2 → ℕ) (h : ∀ a, o a + S128x2048.size a ≤ S4096x2048.size a) : Vec F S128x2048 .f32 :=
  (rowP o h).view.read (Elt F) P

/-- What a local copy of 128 rows credits. -/
abbrev M : ℕ := aBuf.view.dmaCredit
theorem M_pos : 0 < M := View.dmaCredit_pos _ (by decide)

/-- A copy of rows `o` of the partial sums into a slot is under way. -/
def Copying (c : Dev nD) (q : PosShare TreeShare) (P : main_v1.ty.Contents (Elt F)) (o : Fin 2 → ℕ) (h : ∀ a, o a + S128x2048.size a ≤ S4096x2048.size a)
    (a : Memref sig .tc .vmem S2x128x2048 .f32) (sems : DmaSems sig S2) (s : Fin 2) : sProp 𝕄 :=
  iprop(Transfers.Flight EC (c : Thread nD τ) (.dma (sem2 sems s)) () M
      (iprop(owns (c : Thread nD τ) (slot a s) fullShare (rows P o h) ∗ ((rowP o h).view.loc (c : Thread nD τ) ↦[(rowP o h).view.set]{q} P)))
    ∗ (aP.view.loc (c : Thread nD τ) ↦[Finset.univ \ (rowP o h).view.set]{q} P))

/-- A slot at no known contents. -/
abbrev someSlot (c : Dev nD) (a : Memref sig .tc .vmem S2x128x2048 .f32) (s : Fin 2) : sProp 𝕄 :=
  iprop(∃ v : Vec F S128x2048 .f32, owns (c : Thread nD τ) (slot a s) fullShare v)

theorem startIn_ok (c : Dev nD) (q : PosShare TreeShare) (P : main_v1.ty.Contents (Elt F)) (o : Fin 2 → ℕ)
    (h : ∀ a, o a + S128x2048.size a ≤ S4096x2048.size a) (a : Memref sig .tc .vmem S2x128x2048 .f32) (sems : DmaSems sig S2) (s : Fin 2)
    (hN : (slot a s).view.dmaCredit = M) :
    iprop(src c q P ∗ someSlot (F := F) c a s ∗ semVal ((c : Thread nD τ), .dma (sem2 sems s)) 0)
      ⊢ Runs c (startIn (F := F) o h a sems s) (fun _ => Copying c q P o h a sems s) := by
  unfold someSlot owns
  iintro ⟨Hsrc, ⟨%v, %f, -, Hd⟩, Hv⟩
  ihave Hs := (pointsTo_split_subset (ℓ := aP.view.loc (c : Thread nD τ)) (I := (rowP o h).view.set) (S := Finset.univ)
    (q := q) (f := P) (Finset.subset_univ _)).1 $$ Hsrc
  icases Hs with ⟨Hs, Hrest⟩
  unfold startIn
  iapply (Transfers.wp_dmaLocal EC 𝒱₀ (c : Thread nD τ) none (via := .same) (src := rowP o h) (dst := slot a s) (sm := .dma (sem2 sems s))
    (Sd := (slot a s).view.set) (fd := f) (q := q) (fs := P) () M hN M_pos (le_refl _)) $$ [Hs Hd Hv]
  · isplitl [Hs]; · iexact Hs
    isplitl [Hd]; · iexact Hd
    iexact Hv
  iintro HF
  rw [wp_ret]; imodintro
  unfold Copying
  isplitl [HF]
  · iapply (Transfers.Flight_mono EC (c : Thread nD τ) (sm := .dma (sem2 sems s)) (ι := ()) (N := M) ?_) $$ HF
    iintro ⟨Hd, Hs⟩
    isplitl [Hd]
    · iapply (show _ ⊢ owns (c : Thread nD τ) (slot a s) fullShare (rows P o h) from ?_) $$ Hd
      refine (owns_intro (c : Thread nD τ) (slot a s) fullShare _).trans (Entails.of_eq ?_)
      rw [View.read_write_univ]
    · iexact Hs
  · iexact Hrest

theorem waitIn_ok (c : Dev nD) (q : PosShare TreeShare) (P : main_v1.ty.Contents (Elt F)) (o : Fin 2 → ℕ)
    (h : ∀ a, o a + S128x2048.size a ≤ S4096x2048.size a) (a : Memref sig .tc .vmem S2x128x2048 .f32) (sems : DmaSems sig S2) (s : Fin 2)
    (hN : (slot a s).view.dmaCredit = M) (hlv : lv ((c : Thread nD τ), .dma (sem2 sems s)) () = 0) (n m : ℕ) :
    iprop(levAts L lv ∗ Copying c q P o h a sems s ∗ Owes (F := F) c n m)
      ⊢ Runs c (waitIn (F := F) o h a sems s) (fun _ => iprop(owns (c : Thread nD τ) (slot a s) fullShare (rows P o h)
          ∗ semVal ((c : Thread nD τ), .dma (sem2 sems s)) 0 ∗ src c q P ∗ Owes (F := F) c n m)) := by
  unfold Copying Owes
  iintro ⟨Hlev, ⟨HF, Hrest⟩, ⟨%W, HO⟩⟩
  unfold waitIn
  iapply (Transfers.wp_waitLocalO EC 𝒱₀ (c : Thread nD τ) none () (N := M) hN (O := owed c n m) (W := W)) $$ [HF Hlev HO]
  · isplitl [HF]; · iexact HF
    isplitl [HO]; · iexact HO
    iapply (mayWait_owed c _ n m 0 (le_of_eq hlv) (.inr (by decide)) (.inr (by decide))); iexact Hlev
  iintro ⟨⟨Hd, Hs⟩, Hv, HO⟩
  rw [wp_ret]; imodintro
  isplitl [Hd]; · iexact Hd
  isplitl [Hv]; · iexact Hv
  isplitl [Hs Hrest]
  · iapply (pointsTo_split_subset (ℓ := aP.view.loc (c : Thread nD τ)) (I := (rowP o h).view.set) (S := Finset.univ)
      (q := q) (f := P) (Finset.subset_univ _)).2
    isplitl [Hs]; · iexact Hs
    iexact Hrest
  · iexists _; iexact HO

/-! ## The finished rows -/

/-- The rectangle of the whole buffer of finished rows. -/
abbrev rectB : Rect S128x2048 := Rect.unit (s := S128x2048) ![0, 0] S128x2048.size inb_S128x2048_S128x2048_0_0

theorem rectB_off : (![0, 0] : Fin 2 → ℕ) = fun _ => 0 := by decide

/-- A store over the whole buffer leaves what was stored. -/
theorem write_buf (f w : cc0_scratch4.ty.Contents (Elt F)) : (aBuf.access rectB).write (Elt F) f w Finset.univ = w :=
  Memref.write_access_unit_zero_univ (Elt F) cc0_scratch4 rectB_off _ f w

/-- The buffer of finished rows at some contents. -/
def someBuf (c : Dev nD) : sProp 𝕄 := iprop(∃ f : cc0_scratch4.ty.Contents (Elt F), aBuf.view.loc (c : Thread nD τ) ↦{fullShare} f)

theorem lv_out (c : Dev nD) : lv ((c : Thread nD τ), .dma cc0_scratch11.sem) () = 0 := by decide +revert

theorem fill_ok (c : Dev nD) (w : Vec F S128x2048 .f32) :
    (someBuf (F := F) c) ⊢ Runs c (fill w) (fun _ => aBuf.view.loc (c : Thread nD τ) ↦{fullShare} w) := by
  unfold someBuf fill
  iintro ⟨%b, Hb⟩
  iapply (wp_load 𝒱₀ (c : Thread nD τ) none Set.univ (m := aBuf) (S := Finset.univ) (q := fullShare) (f := b) (Finset.subset_univ _)) $$ Hb
  iintro Hb
  iapply (wp_store 𝒱₀ (c : Thread nD τ) none Set.univ (m := aBuf) (r := rectB) (S := Finset.univ) (f := b) (Finset.subset_univ _)) $$ Hb
  rw [write_buf]
  iintro Hb
  rw [wp_ret]; imodintro
  iexact Hb

/-- Finished rows are under way to the result. -/
def Leaving (c : Dev nD) (w : Vec F S128x2048 .f32) (o : Fin 2 → ℕ) (h : ∀ a, o a + S128x2048.size a ≤ S2048x2048.size a) : sProp 𝕄 :=
  Transfers.Flight EC (c : Thread nD τ) (.dma cc0_scratch11.sem) () M
    (iprop(owns (c : Thread nD τ) (rowO o h) fullShare w ∗ (aBuf.view.loc (c : Thread nD τ) ↦[aBuf.view.set]{fullShare} w)))

theorem startOut_ok (c : Dev nD) (w : Vec F S128x2048 .f32) (o : Fin 2 → ℕ) (h : ∀ a, o a + S128x2048.size a ≤ S2048x2048.size a) :
    iprop((aBuf.view.loc (c : Thread nD τ) ↦{fullShare} w) ∗ (∃ v : Vec F S128x2048 .f32, owns (c : Thread nD τ) (rowO o h) fullShare v)
        ∗ semVal ((c : Thread nD τ), .dma cc0_scratch11.sem) 0)
      ⊢ Runs c (startOut (F := F) o h) (fun _ => Leaving c w o h) := by
  unfold owns startOut
  iintro ⟨Hb, ⟨%v, %f, -, Hd⟩, Hv⟩
  iapply (Transfers.wp_dmaLocal EC 𝒱₀ (c : Thread nD τ) none (via := .same) (src := aBuf) (dst := rowO o h) (sm := .dma cc0_scratch11.sem)
    (Sd := (rowO o h).view.set) (fd := f) (q := fullShare) (fs := w) () M rfl M_pos (le_refl _)) $$ [Hb Hd Hv]
  · isplitl [Hb]
    · rw [show aBuf.view.set = Finset.univ from View.set_whole _]; iexact Hb
    isplitl [Hd]; · iexact Hd
    iexact Hv
  iintro HF
  rw [wp_ret]; imodintro
  unfold Leaving
  iapply (Transfers.Flight_mono EC (c : Thread nD τ) (sm := .dma cc0_scratch11.sem) (ι := ()) (N := M) ?_) $$ HF
  iintro ⟨Hd, Hb⟩
  isplitl [Hd]
  · iapply (show _ ⊢ owns (c : Thread nD τ) (rowO o h) fullShare w from ?_) $$ Hd
    refine (owns_intro (c : Thread nD τ) (rowO o h) fullShare _).trans (Entails.of_eq ?_)
    rw [View.read_write_univ]; rfl
  · iexact Hb

theorem waitOut_ok (c : Dev nD) (w : Vec F S128x2048 .f32) (o : Fin 2 → ℕ) (h : ∀ a, o a + S128x2048.size a ≤ S2048x2048.size a) (n m : ℕ) :
    iprop(levAts L lv ∗ Leaving c w o h ∗ Owes (F := F) c n m)
      ⊢ Runs c (waitOut (F := F) o h) (fun _ => iprop(someBuf (F := F) c ∗ owns (c : Thread nD τ) (rowO o h) fullShare w
        ∗ semVal ((c : Thread nD τ), .dma cc0_scratch11.sem) 0 ∗ Owes (F := F) c n m)) := by
  unfold Leaving Owes waitOut someBuf
  iintro ⟨Hlev, HF, ⟨%W, HO⟩⟩
  iapply (Transfers.wp_waitLocalO EC 𝒱₀ (c : Thread nD τ) none (srcw := aBuf) (dstw := rowO o h) () (N := M) rfl (O := owed c n m) (W := W)) $$ [HF Hlev HO]
  · isplitl [HF]; · iexact HF
    isplitl [HO]; · iexact HO
    iapply (mayWait_owed c _ n m 0 (le_of_eq (lv_out c)) (.inr (by decide)) (.inr (by decide))); iexact Hlev
  iintro ⟨⟨Hd, Hb⟩, Hv, HO⟩
  rw [wp_ret]; imodintro
  isplitl [Hb]
  · iexists w
    rw [show aBuf.view.set = Finset.univ from View.set_whole _]; iexact Hb
  isplitl [Hd]; · iexact Hd
  isplitl [Hv]; · iexact Hv
  iexists _; iexact HO

theorem emit_ok (c : Dev nD) (gam : FVec F S1x2048 .f32) (mine : Vec F S1x128x2048 .f32) (got : Vec F S128x2048 .bf16)
    (o : Fin 2 → ℕ) (h : ∀ a, o a + S128x2048.size a ≤ S2048x2048.size a) (n m : ℕ) :
    iprop(levAts L lv ∗ someBuf (F := F) c ∗ (∃ v : Vec F S128x2048 .f32, owns (c : Thread nD τ) (rowO o h) fullShare v)
        ∗ semVal ((c : Thread nD τ), .dma cc0_scratch11.sem) 0 ∗ Owes (F := F) c n m)
      ⊢ Runs c (emit gam mine got o h) (fun _ => iprop(someBuf (F := F) c ∗ owns (c : Thread nD τ) (rowO o h) fullShare (k0_pay35 gam mine got)
        ∗ semVal ((c : Thread nD τ), .dma cc0_scratch11.sem) 0 ∗ Owes (F := F) c n m)) := by
  unfold emit
  iintro ⟨Hlev, Hb, Hd, Hv, HO⟩
  iapply (step (fill_ok c (k0_pay35 gam mine got))) $$ Hb
  iintro %_ Hb
  iapply (step (startOut_ok c (k0_pay35 gam mine got) o h)) $$ [Hb Hd Hv]
  · isplitl [Hb]; · iexact Hb
    isplitl [Hd]; · iexact Hd
    iexact Hv
  iintro %_ HF
  iapply (waitOut_ok c (k0_pay35 gam mine got) o h n m)
  isplitl [Hlev]; · iexact Hlev
  isplitl [HF]; · iexact HF
  iexact HO

end Cert.KernelIdeal.Run

end
-- ==== Proof.Talk.lean ====
/- The steps by which the devices talk: packing a chunk, sending it along x, passing it on along z, waiting for an arrival
   or a departure, and the barrier. Each is stated for a chunk number. -/
module

public import proofs.«01_k».proof.Proof.Steps

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open Cert.KernelIdeal.Gen (k0_pay1 k0_pay9 k0_pay35)

variable {F : FTy → Type} [FloatOps F]

local notation "𝕄" => MT nD τ sig Unit (Elt F) ℕ UU ℕ

/-! ## The cells and their invariants -/

def barEmb : Dev nD ↪ GSem nD τ sig := ⟨fun c => barCell c, fun _ _ h => congrArg (fun g : GSem nD τ sig => g.1.1) h⟩
def scEmb : Dev nD × Fin 8 × Fin 4 ↪ GSem nD τ sig :=
  ⟨fun p => cell p.1 p.2.2 p.2.1, fun p p' h => by
    obtain ⟨h1, h2, h3⟩ := cell_inj h
    exact Prod.ext h1 (Prod.ext h3 h2)⟩
/-- The cells open from the start. -/
abbrev barCells : Finset (GSem nD τ sig) := Finset.univ.map barEmb
/-- The cells opened when the kernel is entered. -/
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem cell_mem (c : Dev nD) (i : Fin 4) (k : Fin 8) : cell c i k ∈ (barCells ∪ scCells : Finset (GSem nD τ sig)) :=
  Finset.mem_union_right _ (Finset.mem_map_of_mem scEmb (Finset.mem_univ (c, k, i)))

/-- Every cell follows the schedule; `K` names its invariant. -/
def invs (X : Sent F) (K : GSem nD τ sig → ℕ) : sProp 𝕄 := bigSep (barCells ∪ scCells) fun g => cellInv ER (rd X) (K g) g
instance invs_persistent (X : Sent F) (K : GSem nD τ sig → ℕ) : BI.Persistent (invs X K) := by unfold invs; infer_instance

variable (X : Sent F) (K : GSem nD τ sig → ℕ) (c : Dev nD)

theorem inv_bar : invs X K ⊢ cellInv ER (rd X) (K (barCell c)) (barCell c) := bigSep_elim (bar_mem c)
theorem inv_cell (i : Fin 4) (k : Fin 8) : invs X K ⊢ cellInv ER (rd X) (K (cell c i k)) (cell c i k) := bigSep_elim (cell_mem c i k)

/-! ## Tickets -/

/-- What it takes to send chunk `k` along x, besides its contents. -/
def ticketX (k : Fin 8) : sProp 𝕄 :=
  iprop((dutyTok ER (cell c 0 k) 0 false ∗ dutyTok ER (cell (px c) 1 k) 0 false)
    ∗ reached ER (cell c 0 k) 0 ∗ (∃ v, owns (px c : Thread nD τ) (near c k) fullShare v) ∗ reached ER (cell (px c) 1 k) 0)
/-- What it takes to pass chunk `k` on along z, besides its contents. -/
def ticketZ (k : Fin 8) : sProp 𝕄 :=
  iprop((dutyTok ER (cell c 2 k) 0 false ∗ dutyTok ER (cell (pz c) 3 k) 0 false)
    ∗ reached ER (cell c 2 k) 0 ∗ (∃ v, owns (pz c : Thread nD τ) (near c k) fullShare v) ∗ reached ER (cell (pz c) 3 k) 0)
/-- What it takes to wait for chunk `k` of family `i`, once it is under way. -/
def posAt (i : Fin 4) (r : ℕ) (k : Fin 8) : sProp 𝕄 := atPos ER (cell c i k) r ∅ 0
/-- Chunk `k` of family `i` will arrive or has arrived. -/
def due (i : Fin 4) (k : Fin 8) : sProp 𝕄 := cred (tallyAt (cell c i k) () N)

/-! ## The steps -/

theorem pack_ok (k : Fin 8) (Y : Vec F S128x2048 .f32) :
    iprop(owns (c : Thread nD τ) (slot aPin (par k.val)) fullShare Y ∗ (∃ v : Vec F S128x2048 .bf16, owns (c : Thread nD τ) (rowX k) fullShare v))
      ⊢ Runs c (pack k) (fun _ => iprop(owns (c : Thread nD τ) (slot aPin (par k.val)) fullShare Y
          ∗ owns (c : Thread nD τ) (rowX k) fullShare (k0_pay1 (up Y)))) := by
  unfold pack
  iintro ⟨Hp, ⟨%v, Hx⟩⟩
  iapply (step (readSlot_ok c aPin (par k.val) fullShare Y _)) $$ Hp
  iintro %w ⟨%hw, Hp⟩
  subst hw
  iapply (step (load_ok c aX (rectX k) (fun _ => rfl) _ fullShare v)) $$ Hx
  iintro %u ⟨-, Hx⟩
  iapply (last (store_ok c aX (rectX k) (fun _ => rfl) (k0_pay1 (up Y)) _ _)) $$ [Hx]
  · iexists v; iexact Hx
  iintro %_ Hx
  isplitl [Hp]; · iexact Hp
  iexact Hx

theorem sendX_ok (k : Fin 8) (b : ℕ) :
    iprop(invs X K ∗ owns (c : Thread nD τ) (rowX k) fullShare (X c k) ∗ ticketX (F := F) c k ∗ Owes (F := F) c k.val b)
      ⊢ Runs c (sendX c k) (fun _ => iprop(due (F := F) c 0 k ∗ Owes (F := F) c (k.val + 1) b)) := by
  unfold ticketX Owes sendX due
  iintro ⟨#HI, Hx, ⟨⟨Ht0, Ht1⟩, #Hr0, ⟨%v, Hd⟩, #Hr1⟩, ⟨%W, HO⟩⟩
  unfold owns
  icases Hx with ⟨%fs, %hfs, Hx⟩
  icases Hd with ⟨%fd, -, Hd⟩
  iapply (Rounds.wp_send_pointsTo 𝒱₀ ER (rd X) (c : Thread nD τ) none (c' := (px c : Thread nD τ)) (src := rowX k) (dst := near c k)
      (sS := .dma (fsem 0 k)) (sem := .dma (fsem 1 k)) (q := fullShare) (fs := fs) (κ₁ := K (cell c 0 k)) (κ₂ := K (cell (px c) 1 k))
      (r₁ := 0) (r₂ := 0) (d₁ := false) (d₂ := false) (fd := fd)
      (by rw [duties_cell]; exact Finset.mem_singleton_self _) (by rw [duties_cell]; exact Finset.mem_singleton_self _)
      () () N rfl (amount_cell X c 0 k false) (amount_cell X (px c) 1 k false) (owed c (k.val + 1) b) (owed_x c k b) (W := W)
      (by rw [payload_cell]; unfold dmaPay; rw [← hfs]; exact owns_intro _ _ _ _)
      (by rw [payload_cell]; dsimp only [dmaPay]; rw [px_px, nearM_px]
          refine (owns_intro (px c : Thread nD τ) (near c k) fullShare _).trans (Entails.of_eq ?_)
          rw [View.read_write_univ, hfs])) $$ [Hx Hd HO Ht0 Ht1]
  · isplitr; · iapply (inv_cell X K c 0 k); iexact HI
    isplitr; · iapply (inv_cell X K (px c) 1 k); iexact HI
    isplitl [Hx]; · iexact Hx
    isplitl [Hd]; · iexact Hd
    isplitl [HO]; · iexact HO
    isplitl [Ht0]; · iexact Ht0
    isplitr; · iexact Hr0
    isplitl [Ht1]; · iexact Ht1
    iexact Hr1
  iintro ⟨Hc, HO⟩
  rw [wp_ret]; imodintro
  isplitl [Hc]; · iexact Hc
  iexists W; iexact HO

theorem sendZ_ok (k : Fin 8) (a : ℕ) :
    iprop(invs X K ∗ owns (c : Thread nD τ) (near c k) (fullShare : PosShare TreeShare).right (X (px c) k) ∗ ticketZ (F := F) c k ∗ Owes (F := F) c a k.val)
      ⊢ Runs c (sendZ c k) (fun _ => iprop(due (F := F) c 2 k ∗ Owes (F := F) c a (k.val + 1))) := by
  unfold ticketZ Owes sendZ due
  iintro ⟨#HI, Hx, ⟨⟨Ht0, Ht1⟩, #Hr0, ⟨%v, Hd⟩, #Hr1⟩, ⟨%W, HO⟩⟩
  unfold owns
  icases Hx with ⟨%fs, %hfs, Hx⟩
  icases Hd with ⟨%fd, -, Hd⟩
  iapply (Rounds.wp_send_pointsTo 𝒱₀ ER (rd X) (c : Thread nD τ) none (c' := (pz c : Thread nD τ)) (src := near c k) (dst := near c k)
      (sS := .dma (fsem 2 k)) (sem := .dma (fsem 3 k)) (q := (fullShare : PosShare TreeShare).right) (fs := fs) (κ₁ := K (cell c 2 k)) (κ₂ := K (cell (pz c) 3 k))
      (r₁ := 0) (r₂ := 0) (d₁ := false) (d₂ := false) (fd := fd)
      (by rw [duties_cell]; exact Finset.mem_singleton_self _) (by rw [duties_cell]; exact Finset.mem_singleton_self _)
      () () N rfl (amount_cell X c 2 k false) (amount_cell X (pz c) 3 k false) (owed c a (k.val + 1)) (owed_z c a k) (W := W)
      (by rw [payload_cell]; unfold dmaPay; rw [← hfs]; exact owns_intro _ _ _ _)
      (by rw [payload_cell]; dsimp only [dmaPay]; rw [pz_pz, farM_pz]
          refine (owns_intro (pz c : Thread nD τ) (near c k) fullShare _).trans (Entails.of_eq ?_)
          rw [View.read_write_univ, hfs])) $$ [Hx Hd HO Ht0 Ht1]
  · isplitr; · iapply (inv_cell X K c 2 k); iexact HI
    isplitr; · iapply (inv_cell X K (pz c) 3 k); iexact HI
    isplitl [Hx]; · iexact Hx
    isplitl [Hd]; · iexact Hd
    isplitl [HO]; · iexact HO
    isplitl [Ht0]; · iexact Ht0
    isplitr; · iexact Hr0
    isplitl [Ht1]; · iexact Ht1
    iexact Hr1
  iintro ⟨Hc, HO⟩
  rw [wp_ret]; imodintro
  isplitl [Hc]; · iexact Hc
  iexists W; iexact HO

/-- A wait on chunk `k` of family `i`. -/
theorem await_ok (i : Fin 4) (k : Fin 8) (a b : ℕ) {s' : Shape} {sp' sp : Space} {e' e : EltTy} {s : Shape}
    (sr : Memref sig .tc sp' s' e') (ds : Memref sig .tc sp s e) (hs : sr.view.WordExact) (hd : ds.view.WordExact)
    (hN : ds.view.dmaCredit = N) (n : ℕ) (hn : lv (cell c i k) () ≤ n) (ha : a = 8 ∨ n < 2) (hb : b = 8 ∨ n < 3) :
    iprop(invs X K ∗ levAts L lv ∗ due (F := F) c i k ∗ posAt (F := F) c i 0 k ∗ Owes (F := F) c a b)
      ⊢ Runs c (Prog.lift (.waitDma2 (fsem i k) sr ds hs hd)) (fun _ => iprop(dmaPay X c i k ∗ posAt (F := F) c i 1 k ∗ Owes (F := F) c a b)) := by
  unfold due posAt Owes
  iintro ⟨#HI, #Hlev, Hc, Hat, ⟨%W, HO⟩⟩
  iapply (Rounds.wp_wait_rest_token 𝒱₀ ER (rd X) (c : Thread nD τ) none (κ := K (cell c i k))
      (wpE_waitDma2_eq (src := sr) (dst := ds) 𝒱₀ (c : Thread nD τ) none Set.univ) (Set.mem_univ _) () (O := owed c a b) (W := W) (R := 0) (m := 0) (T := ∅)
      ((Nat.zero_add _).trans (hN.trans (expect_cell X c i k).symm))) $$ [Hc HO Hat]
  · isplitr; · iapply (inv_cell X K c i k); iexact HI
    isplitl [Hc]; · rw [hN]; iexact Hc
    isplitl [HO]; · iexact HO
    isplitr; · iapply (mayWait_owed c (.dma (fsem i k)) a b n hn ha hb); iexact Hlev
    iexact Hat
  iintro ⟨HO, Hat, -, Hpay⟩
  ihave Hp := (Entails.of_eq (rest_cell X c i k)) $$ Hpay
  rw [wp_ret]; imodintro
  isplitl [Hp]; · iexact Hp
  isplitl [Hat]; · iexact Hat
  iexists _; iexact HO

/-- The barrier: both peers are told, each getting the rows it will write; both have told. -/
theorem meet_ok (K : GSem nD τ sig → ℕ) (W : Waits sig Unit) :
    iprop(invs X K ∗ levAts L lv ∗ owes (c : Thread nD τ) (O₀ c) W ∗ cred (tallyAt (barCell c) () 2) ∗ atPos ER (barCell c) 0 ∅ 0
        ∗ (dutyTok ER (barCell (px c)) 0 false ∗ dutyTok ER (barCell (pz c)) 0 true)
        ∗ (reached ER (barCell (px c)) 0 ∗ reached ER (barCell (pz c)) 0)
        ∗ barPay (px c) false ∗ barPay (pz c) true)
      ⊢ Runs c (meet (F := F) c) (fun _ => iprop(barPay c false ∗ barPay c true ∗ atPos ER (barCell c) 1 ∅ 0 ∗ Owes (F := F) c 0 0)) := by
  unfold meet
  iintro ⟨#HI, #Hlev, HO, Hc, Hat, ⟨Htx, Htz⟩, ⟨#Hrx, #Hrz⟩, Hpx, Hpz⟩
  simp only [semSignalWord, semWaitWord]
  iapply (Rounds.wp_signal 𝒱₀ ER (rd X) (c : Thread nD τ) none (dst := (px c : Thread nD τ)) (sem := barS) (r := 0) (d := false) (κ := K (barCell (px c)))
      (by rw [duties_bar]; exact Finset.mem_univ _) (amount_bar X (px c) false) () (owed c 0 0 + tallyAt (barCell (pz c)) () 1) rfl) $$ [HO Htx Hpx]
  · isplitr; · iapply (inv_bar X K (px c)); iexact HI
    isplitl [HO]; · iexact HO
    isplitl [Htx]; · iexact Htx
    isplitl [Hpx]; · rw [payload_bar]; iexact Hpx
    iexact Hrx
  iintro HO
  iapply (Rounds.wp_signal 𝒱₀ ER (rd X) (c : Thread nD τ) none (dst := (pz c : Thread nD τ)) (sem := barS) (r := 0) (d := true) (κ := K (barCell (pz c)))
      (by rw [duties_bar]; exact Finset.mem_univ _) (amount_bar X (pz c) true) () (owed c 0 0) rfl) $$ [HO Htz Hpz]
  · isplitr; · iapply (inv_bar X K (pz c)); iexact HI
    isplitl [HO]; · iexact HO
    isplitl [Htz]; · iexact Htz
    isplitl [Hpz]; · rw [payload_bar]; iexact Hpz
    iexact Hrz
  iintro HO
  iapply (Rounds.wp_wait_rest_token 𝒱₀ ER (rd X) (c : Thread nD τ) none (κ := K (barCell c))
      (wpE_semWait_eq 𝒱₀ (c : Thread nD τ) none Set.univ) (Set.mem_univ _) () (O := owed c 0 0) (W := W) (R := 0) (m := 0) (T := ∅)
      ((Nat.zero_add 2).trans (expect_bar X c).symm)) $$ [Hc HO Hat]
  · isplitr; · iapply (inv_bar X K c); iexact HI
    isplitl [Hc]; · iexact Hc
    isplitl [HO]; · iexact HO
    isplitr; · iapply (mayWait_owed c (.reg barS) 0 0 1 (le_refl _) (.inr (by decide)) (.inr (by decide))); iexact Hlev
    iexact Hat
  iintro ⟨HO, Hat, -, Hpay⟩
  ihave Hp := (Entails.of_eq (rest_bar X c)) $$ Hpay
  icases Hp with ⟨Hp0, Hp1⟩
  rw [wp_ret]; imodintro
  isplitl [Hp0]; · iexact Hp0
  isplitl [Hp1]; · iexact Hp1
  isplitl [Hat]; · iexact Hat
  unfold Owes; iexists _; iexact HO

end Cert.KernelIdeal.Run

end
-- ==== Proof.Loops.lean ====
/- The four loops of the body, each by what holds before its step `n`. -/
module

public import proofs.«01_k».proof.Proof.Talk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open Cert.KernelIdeal.Gen (k0_pay1 k0_pay9 k0_pay35)

variable {F : FTy → Type} [FloatOps F]

local notation "𝕄" => MT nD τ sig Unit (Elt F) ℕ UU ℕ

/-! ## Chunks done and to do -/

/-- The chunk numbers below `n`. -/
def Upto (n : ℕ) : Finset (Fin 8) := Finset.univ.filter (·.val < n)
theorem upto_zero : Upto 0 = ∅ := by decide
theorem upto_end : Upto 8 = Finset.univ := by decide
theorem upto_insert (k : Fin 8) : Upto (k.val + 1) = insert k (Upto k.val) := by revert k; decide
theorem upto_notMem (k : Fin 8) : k ∉ Upto k.val := by revert k; decide

theorem from_split (k : Fin 8) (Φ : Fin 8 → sProp 𝕄) : bigSep (From k.val) Φ = iprop(Φ k ∗ bigSep (From (k.val + 1)) Φ) := by
  rw [from_insert]; exact bigSep_insert (from_notMem k)
theorem upto_split (k : Fin 8) (Φ : Fin 8 → sProp 𝕄) : bigSep (Upto (k.val + 1)) Φ = iprop(Φ k ∗ bigSep (Upto k.val) Φ) := by
  rw [upto_insert]; exact bigSep_insert (upto_notMem k)

/-- A natural number as a chunk number. -/
abbrev fin8 (n : ℕ) : Fin 8 := ⟨n % 8, Nat.mod_lt _ (by decide)⟩
abbrev fin16 (n : ℕ) : Fin 16 := ⟨n % 16, Nat.mod_lt _ (by decide)⟩
theorem fin8_of (n : ℕ) (h : n < 8) : fin8 n = ⟨n, h⟩ := Fin.ext (Nat.mod_eq_of_lt h)
theorem fin16_of (n : ℕ) (h : n < 16) : fin16 n = ⟨n, h⟩ := Fin.ext (Nat.mod_eq_of_lt h)
theorem par_two (n : ℕ) : par (n + 2) = par n := Fin.ext (Nat.add_mod_right n 2)

variable (P : Dev nD → main_v1.ty.Contents (Elt F)) (gam : FVec F S1x2048 .f32) (K : GSem nD τ sig → ℕ) (c : Dev nD)

/-! ## The contents -/

/-- The rows of chunk `k` about to be sent. -/
abbrev pinRows (k : Fin 8) : Vec F S128x2048 .f32 := rows (P c) (k0_off1 c (ofs k.val)) (k0_off1_inb c k)
/-- The own rows of the `j`-th chunk. -/
abbrev mineRows (j : Fin 16) : Vec F S128x2048 .f32 := rows (P c) (mineOff c j) (mineOff_inb c j)
/-- What a device sends along x. -/
def sent : Sent F := fun d k => k0_pay1 (up (pinRows P d k))
/-- The finished rows of the half received along x. -/
def outNear (k : Fin 8) : Vec F S128x2048 .f32 := k0_pay35 gam (up (mineRows P c ⟨k.val, by omega⟩)) (sent P (px c) k)
/-- The finished rows of the half received along z. -/
def outFar (k : Fin 8) : Vec F S128x2048 .f32 := k0_pay35 gam (up (mineRows P c ⟨k.val + 8, by omega⟩)) (sent P (px (pz c)) k)

/-- The rows of the result. -/
abbrev resNear (k : Fin 8) : Memref sig .tc .hbm S128x2048 .f32 := rowO (nearO c k) (k0_off2_inb c k)
abbrev resFar (k : Fin 8) : Memref sig .tc .hbm S128x2048 .f32 := rowO (farO c k) (k0_off6_inb c k)

/-- The two shares of the partial sums that copies under way borrow from. -/
abbrev half (s : Fin 2) : PosShare TreeShare := match s with | 0 => (fullShare : PosShare TreeShare).left | 1 => (fullShare : PosShare TreeShare).right

theorem lv_pin (s : Fin 2) : lv ((c : Thread nD τ), .dma (sem2 cc0_scratch9 s)) () = 0 := by revert c s; decide
theorem lv_mine (s : Fin 2) : lv ((c : Thread nD τ), .dma (sem2 cc0_scratch10 s)) () = 0 := by revert c s; decide

/-! ## The loop that sends -/

/-- A slot not in use, and its semaphore. -/
def free (a : Memref sig .tc .vmem S2x128x2048 .f32) (sems : DmaSems sig S2) (s : Fin 2) : sProp 𝕄 :=
  iprop(someSlot (F := F) c a s ∗ semVal ((c : Thread nD τ), .dma (sem2 sems s)) 0)
/-- The rows of chunk `k` are in their slot. -/
def pinned (k : Fin 8) : sProp 𝕄 :=
  iprop(owns (c : Thread nD τ) (slot aPin (par k.val)) fullShare (pinRows P c k) ∗ semVal ((c : Thread nD τ), .dma (sem2 cc0_scratch9 (par k.val))) 0)
/-- A chunk to be packed and sent. -/
def toSend (k : Fin 8) : sProp 𝕄 :=
  iprop(ticketX (F := F) c k ∗ ∃ v : Vec F S128x2048 .bf16, owns (c : Thread nD τ) (rowX k) fullShare v)

theorem pinned_free (k : Fin 8) : pinned P c k ⊢ free (F := F) c aPin cc0_scratch9 (par k.val) := by
  unfold pinned free
  iintro ⟨H, Hv⟩
  isplitl [H]; · iexists _; iexact H
  iexact Hv

theorem startPin_ok (k : Fin 8) :
    iprop(src c (half 0) (P c) ∗ free (F := F) c aPin cc0_scratch9 (par k.val))
      ⊢ Runs c (startPin c k) (fun _ => Copying c (half 0) (P c) (k0_off1 c (ofs k.val)) (k0_off1_inb c k) aPin cc0_scratch9 (par k.val)) := by
  unfold free
  exact startIn_ok c (half 0) (P c) _ _ aPin cc0_scratch9 (par k.val) rfl

theorem waitPin_ok (k : Fin 8) (n m : ℕ) :
    iprop(levAts L lv ∗ Copying c (half 0) (P c) (k0_off1 c (ofs k.val)) (k0_off1_inb c k) aPin cc0_scratch9 (par k.val) ∗ Owes (F := F) c n m)
      ⊢ Runs c (waitPin c k) (fun _ => iprop(pinned P c k ∗ src c (half 0) (P c) ∗ Owes (F := F) c n m)) := by
  iintro H
  iapply (last (waitIn_ok c (half 0) (P c) _ _ aPin cc0_scratch9 (par k.val) rfl (lv_pin c _) n m)) $$ H
  iintro %_ ⟨Hd, Hv, Hs, HO⟩
  unfold pinned
  isplitl [Hd Hv]
  · isplitl [Hd]; · iexact Hd
    iexact Hv
  isplitl [Hs]; · iexact Hs
  iexact HO

/-- Pack and send chunk `k`. -/
theorem packSend_ok (k : Fin 8) (b : ℕ) {α : Type} (q : PUnit → KProg F α) (Q : α → sProp 𝕄) :
    iprop(invs (sent P) K ∗ pinned P c k ∗ toSend (F := F) c k ∗ Owes (F := F) c k.val b)
      ⊢ iprop((iprop(free (F := F) c aPin cc0_scratch9 (par k.val) ∗ due (F := F) c 0 k ∗ Owes (F := F) c (k.val + 1) b) -∗ Runs c (q ⟨⟩) Q)
        -∗ Runs c (pack k >>= fun _ => sendX c k >>= q) Q) := by
  unfold pinned toSend
  iintro ⟨#HI, ⟨Hp, Hv⟩, ⟨Ht, Hx⟩, HO⟩ Hk
  iapply (step (pack_ok c k (pinRows P c k))) $$ [Hp Hx]
  · isplitl [Hp]; · iexact Hp
    iexact Hx
  iintro %_ ⟨Hp, Hx⟩
  iapply (step (sendX_ok (sent P) K c k b)) $$ [Hx Ht HO]
  · isplitr; · iexact HI
    isplitl [Hx]; · iexact Hx
    isplitl [Ht]; · iexact Ht
    iexact HO
  iintro %_ ⟨Hd, HO⟩
  iapply Hk
  isplitl [Hp Hv]
  · unfold free
    isplitl [Hp]; · iexists _; iexact Hp
    iexact Hv
  isplitl [Hd]; · iexact Hd
  iexact HO

/-- Before step `n` of the loop that sends. -/
def atA (n : ℕ) : sProp 𝕄 :=
  iprop(invs (sent P) K ∗ levAts L lv ∗ pinned P c (fin8 n) ∗ free (F := F) c aPin cc0_scratch9 (par (n + 1)) ∗ src c (half 0) (P c)
    ∗ bigSep (From n) (toSend (F := F) c) ∗ bigSep (Upto n) (due (F := F) c 0) ∗ Owes (F := F) c n 0)

theorem stepA_ok (k : Fin 7) : atA P K c k.val ⊢ Runs c (stepA c k) (fun _ => atA P K c (k.val + 1)) := by
  have h0 : k.val < 8 := by omega
  have h1 : k.val + 1 < 8 := by omega
  have e0 : fin8 k.val = ⟨k.val, h0⟩ := fin8_of _ _
  have e1 : fin8 (k.val + 1) = ⟨k.val + 1, h1⟩ := fin8_of _ _
  unfold atA stepA
  rw [e0, e1, par_two, from_split (⟨k.val, h0⟩ : Fin 8), upto_split (⟨k.val, h0⟩ : Fin 8)]
  iintro ⟨#HI, #Hlev, Hp, Hf, Hs, ⟨Hx, HX⟩, Hd, HO⟩
  iapply (step (startPin_ok P c ⟨k.val + 1, h1⟩)) $$ [Hs Hf]
  · isplitl [Hs]; · iexact Hs
    iexact Hf
  iintro %_ HC
  iapply (packSend_ok P K c ⟨k.val, h0⟩ 0) $$ [Hp Hx HO]
  · isplitr; · iexact HI
    isplitl [Hp]; · iexact Hp
    isplitl [Hx]; · iexact Hx
    iexact HO
  iintro ⟨Hf, Hdk, HO⟩
  iapply (last (waitPin_ok P c ⟨k.val + 1, h1⟩ (k.val + 1) 0)) $$ [HC HO]
  · isplitr; · iexact Hlev
    isplitl [HC]; · iexact HC
    iexact HO
  iintro %_ ⟨Hp, Hs, HO⟩
  isplitr; · iexact HI
  isplitr; · iexact Hlev
  isplitl [Hp]; · iexact Hp
  isplitl [Hf]; · iexact Hf
  isplitl [Hs]; · iexact Hs
  isplitl [HX]; · iexact HX
  isplitl [Hd Hdk]
  · isplitl [Hdk]; · iexact Hdk
    iexact Hd
  iexact HO

/-! ## The loop over the half received along x -/

/-- The copy of the own rows of chunk `j` is under way. -/
def mineAt (j : Fin 16) : sProp 𝕄 :=
  Copying c (half (par j.val)) (P c) (mineOff c j) (mineOff_inb c j) aMine cc0_scratch10 (par j.val)
/-- A slot of own rows not in use. -/
def idle (s : Fin 2) : sProp 𝕄 := iprop(src c (half s) (P c) ∗ free (F := F) c aMine cc0_scratch10 s)

theorem startMine_ok (j : Fin 16) : idle P c (par j.val) ⊢ Runs c (startMine c j) (fun _ => mineAt P c j) := by
  unfold idle free
  exact startIn_ok c (half (par j.val)) (P c) _ _ aMine cc0_scratch10 (par j.val) rfl

/-- The own rows of chunk `j` are waited for and read. -/
theorem takeMine_ok (j : Fin 16) (n m : ℕ) {α : Type} (q : Vec F S1x128x2048 .f32 → KProg F α) (Q : α → sProp 𝕄) :
    iprop(levAts L lv ∗ mineAt P c j ∗ Owes (F := F) c n m)
      ⊢ iprop((iprop(idle P c (par j.val) ∗ Owes (F := F) c n m) -∗ Runs c (q (up (mineRows P c j))) Q)
        -∗ Runs c (waitMine c j >>= fun _ => readMine (par j.val) >>= q) Q) := by
  unfold mineAt
  iintro H Hk
  iapply (step (waitIn_ok c (half (par j.val)) (P c) _ _ aMine cc0_scratch10 (par j.val) rfl (lv_mine c _) n m)) $$ H
  iintro %_ ⟨Hd, Hv, Hs, HO⟩
  iapply (step (readSlot_ok c aMine (par j.val) fullShare (mineRows P c j) _)) $$ Hd
  iintro %w ⟨%hw, Hd⟩
  subst hw
  iapply Hk
  isplitr [HO]
  · unfold idle free
    isplitl [Hs]; · iexact Hs
    isplitl [Hd]; · iexists _; iexact Hd
    iexact Hv
  iexact HO

/-- A chunk of rows received is read, at an offset equal to the one it is owned at. -/
theorem readR_ok (o o' : Fin 2 → ℕ) (h : ∀ a, o a + S128x2048.size a ≤ S2048x2048.size a)
    (h' : ∀ a, o' a + S128x2048.size a ≤ S2048x2048.size a) (e : o = o') (q : PosShare TreeShare) (Y : Vec F S128x2048 .bf16) :
    (owns (c : Thread nD τ) (rowR o' h') q Y : sProp 𝕄)
      ⊢ Runs c (readR o h) (fun v => iprop(⌜v = Y⌝ ∗ owns (c : Thread nD τ) (rowR o' h') q Y)) := by
  subst e
  unfold readR
  exact load_ok c aR (Rect.unit (s := S2048x2048) o S128x2048.size h) (fun _ => rfl) _ q Y

/-- The buffer of finished rows and its semaphore. -/
def outlet : sProp 𝕄 := iprop(someBuf (F := F) c ∗ semVal ((c : Thread nD τ), .dma cc0_scratch11.sem) 0)

/-- A chunk due along x, the means to pass it on, and the rows of the result it belongs to. -/
def toPass (k : Fin 8) : sProp 𝕄 :=
  iprop(due (F := F) c 1 k ∗ posAt (F := F) c 1 0 k ∗ ticketZ (F := F) c k ∗ ∃ v : Vec F S128x2048 .f32, owns (c : Thread nD τ) (resNear c k) fullShare v)
/-- A chunk taken in and passed on. -/
def passed (k : Fin 8) : sProp 𝕄 :=
  iprop(due (F := F) c 2 k ∗ posAt (F := F) c 1 1 k ∗ owns (c : Thread nD τ) (near c k) (fullShare : PosShare TreeShare).left (sent P (px c) k)
    ∗ owns (c : Thread nD τ) (resNear c k) fullShare (outNear P gam c k))

/-- Before step `n` of the loop over the half received along x. -/
def atB (n : ℕ) : sProp 𝕄 :=
  iprop(invs (sent P) K ∗ levAts L lv ∗ mineAt P c (fin16 n) ∗ mineAt P c (fin16 (n + 1)) ∗ outlet (F := F) c
    ∗ bigSep (From n) (toPass (F := F) c) ∗ bigSep (Upto n) (passed P gam c) ∗ Owes (F := F) c 8 n)

theorem stepB_ok (k : Fin 8) : atB P gam K c k.val ⊢ Runs c (stepB gam c k) (fun _ => atB P gam K c (k.val + 1)) := by
  have h0 : k.val < 16 := by omega
  have h2 : k.val + 2 < 16 := by omega
  have e0 : fin16 k.val = ⟨k.val, h0⟩ := fin16_of _ _
  have e2 : fin16 (k.val + 1 + 1) = ⟨k.val + 2, h2⟩ := fin16_of _ _
  unfold atB stepB
  rw [e0, e2, from_split k, upto_split k]
  unfold toPass outlet
  iintro ⟨#HI, #Hlev, Hm, Hm', ⟨Hb, Hv⟩, ⟨⟨Hd, Hat, Ht, Hr⟩, HF⟩, HU, HO⟩
  iapply (step (await_ok (sent P) K c 1 k 8 k.val _ _ _ _ (N_near c k) 2 (le_of_eq (lv_x c k)) (.inl rfl) (.inr (by decide)))) $$ [Hd Hat HO]
  · isplitr; · iexact HI
    isplitr; · iexact Hlev
    isplitl [Hd]; · iexact Hd
    isplitl [Hat]; · iexact Hat
    iexact HO
  iintro %_ ⟨Hx, Hat, HO⟩
  ihave Hx := (Entails.of_eq (show dmaPay (sent P) c 1 k = owns (c : Thread nD τ) (near c k) fullShare (sent P (px c) k) from rfl)) $$ Hx
  ihave Hx := (owns_halves (c : Thread nD τ) (near c k) fullShare (sent P (px c) k)).1 $$ Hx
  icases Hx with ⟨Hxl, Hxr⟩
  iapply (step (sendZ_ok (sent P) K c k 8)) $$ [Hxr Ht HO]
  · isplitr; · iexact HI
    isplitl [Hxr]; · iexact Hxr
    isplitl [Ht]; · iexact Ht
    iexact HO
  iintro %_ ⟨Hdz, HO⟩
  iapply (takeMine_ok P c ⟨k.val, h0⟩ 8 (k.val + 1)) $$ [Hm HO]
  · isplitr; · iexact Hlev
    isplitl [Hm]; · iexact Hm
    iexact HO
  iintro ⟨Hi, HO⟩
  iapply (step (readR_ok c _ _ (k0_off4_inb c k) _ (off4_near c k) _ (sent P (px c) k))) $$ Hxl
  iintro %w ⟨%hw, Hxl⟩
  subst hw
  iapply (step (startMine_ok P c ⟨k.val + 2, h2⟩)) $$ [Hi]
  · rw [par_two]; iexact Hi
  iintro %_ Hm
  iapply (last (emit_ok c gam (up (mineRows P c ⟨k.val, h0⟩)) (sent P (px c) k) (k0_off2 c (ofs k.val)) (k0_off2_inb c k) 8 (k.val + 1))) $$ [Hb Hv Hr HO]
  · isplitr; · iexact Hlev
    isplitl [Hb]; · iexact Hb
    isplitl [Hr]; · iexact Hr
    isplitl [Hv]; · iexact Hv
    iexact HO
  iintro %_ ⟨Hb, Hr, Hv, HO⟩
  isplitr; · iexact HI
  isplitr; · iexact Hlev
  isplitl [Hm']; · iexact Hm'
  isplitl [Hm]; · iexact Hm
  isplitl [Hb Hv]
  · isplitl [Hb]; · iexact Hb
    iexact Hv
  isplitl [HF]; · iexact HF
  isplitr [HO]
  · isplitr [HU]
    · unfold passed
      isplitl [Hdz]; · iexact Hdz
      isplitl [Hat]; · iexact Hat
      isplitl [Hxl]; · iexact Hxl
      iexact Hr
    iexact HU
  iexact HO

/-! ## The loop over the half received along z -/

/-- A chunk due along z, and the rows of the result it belongs to. -/
def toTake (k : Fin 8) : sProp 𝕄 :=
  iprop(due (F := F) c 3 k ∗ posAt (F := F) c 3 0 k ∗ ∃ v : Vec F S128x2048 .f32, owns (c : Thread nD τ) (resFar c k) fullShare v)
/-- A chunk taken in. -/
def taken (k : Fin 8) : sProp 𝕄 :=
  iprop(posAt (F := F) c 3 1 k ∗ owns (c : Thread nD τ) (far c k) fullShare (sent P (px (pz c)) k)
    ∗ owns (c : Thread nD τ) (resFar c k) fullShare (outFar P gam c k))

/-- A chunk received along z is waited for, the own rows are read and the sum is written out; `again` is what the step does
    with the slot in between. -/
theorem take_ok (k : Fin 8) (again : KProg F PUnit) (E' : sProp 𝕄)
    (hag : idle P c (par (k.val + 8)) ⊢ Runs c again (fun _ => E')) :
    iprop(invs (sent P) K ∗ levAts L lv ∗ mineAt P c ⟨k.val + 8, by omega⟩ ∗ outlet (F := F) c ∗ toTake (F := F) c k ∗ Owes (F := F) c 8 8)
      ⊢ Runs c (do
          waitZ c k
          waitMine c ⟨k.val + 8, by omega⟩
          let mine ← readMine (par (k.val + 8))
          let got ← readR (k0_off7 c (ofs k.val)) (k0_off7_inb c k)
          again
          emit gam mine got (k0_off6 c (ofs k.val)) (k0_off6_inb c k))
        (fun _ => iprop(E' ∗ outlet (F := F) c ∗ taken P gam c k ∗ Owes (F := F) c 8 8)) := by
  have h0 : k.val + 8 < 16 := by omega
  unfold toTake outlet
  iintro ⟨#HI, #Hlev, Hm, ⟨Hb, Hv⟩, ⟨Hd, Hat, Hr⟩, HO⟩
  iapply (step (await_ok (sent P) K c 3 k 8 8 _ _ _ _ (N_far c k) 3 (le_of_eq (lv_z c k)) (.inl rfl) (.inl rfl))) $$ [Hd Hat HO]
  · isplitr; · iexact HI
    isplitr; · iexact Hlev
    isplitl [Hd]; · iexact Hd
    isplitl [Hat]; · iexact Hat
    iexact HO
  iintro %_ ⟨Hx, Hat, HO⟩
  ihave Hx := (Entails.of_eq (show dmaPay (sent P) c 3 k = owns (c : Thread nD τ) (far c k) fullShare (sent P (px (pz c)) k) from rfl)) $$ Hx
  iapply (takeMine_ok P c ⟨k.val + 8, h0⟩ 8 8) $$ [Hm HO]
  · isplitr; · iexact Hlev
    isplitl [Hm]; · iexact Hm
    iexact HO
  iintro ⟨Hi, HO⟩
  iapply (step (readR_ok c _ _ (k0_off7_inb c k) _ (off7_far c k) _ (sent P (px (pz c)) k))) $$ Hx
  iintro %w ⟨%hw, Hx⟩
  subst hw
  iapply (step hag) $$ Hi
  iintro %_ HE
  iapply (last (emit_ok c gam (up (mineRows P c ⟨k.val + 8, h0⟩)) (sent P (px (pz c)) k) (k0_off6 c (ofs k.val)) (k0_off6_inb c k) 8 8)) $$ [Hb Hv Hr HO]
  · isplitr; · iexact Hlev
    isplitl [Hb]; · iexact Hb
    isplitl [Hr]; · iexact Hr
    isplitl [Hv]; · iexact Hv
    iexact HO
  iintro %_ ⟨Hb, Hr, Hv, HO⟩
  isplitl [HE]; · iexact HE
  isplitl [Hb Hv]
  · isplitl [Hb]; · iexact Hb
    iexact Hv
  isplitr [HO]
  · unfold taken
    isplitl [Hat]; · iexact Hat
    isplitl [Hx]; · iexact Hx
    iexact Hr
  iexact HO

theorem par_eight (n : ℕ) : par (n + 8) = par n := Fin.ext (Nat.add_mul_mod_self_left n 2 4)

/-- Before step `n` of the loop over the half received along z. -/
def atC (n : ℕ) : sProp 𝕄 :=
  iprop(invs (sent P) K ∗ levAts L lv ∗ mineAt P c (fin16 (n + 8)) ∗ mineAt P c (fin16 (n + 9)) ∗ outlet (F := F) c
    ∗ bigSep (From n) (toTake (F := F) c) ∗ bigSep (Upto n) (taken P gam c) ∗ Owes (F := F) c 8 8)

theorem stepC_ok (k : Fin 6) : atC P gam K c k.val ⊢ Runs c (stepC gam c k) (fun _ => atC P gam K c (k.val + 1)) := by
  have h0 : k.val < 8 := by omega
  have h8 : k.val + 8 < 16 := by omega
  have h10 : k.val + 10 < 16 := by omega
  have e8 : fin16 (k.val + 8) = ⟨k.val + 8, h8⟩ := fin16_of _ _
  have e10 : fin16 (k.val + 1 + 9) = ⟨k.val + 10, h10⟩ := fin16_of _ _
  have e9 : k.val + 1 + 8 = k.val + 9 := by omega
  have ht := take_ok P gam K c ⟨k.val, h0⟩ (startMine c ⟨k.val + 10, h10⟩) (mineAt P c ⟨k.val + 10, h10⟩) (by
    rw [show par (k.val + 8) = par (k.val + 10) from (par_two _).symm]; exact startMine_ok P c ⟨k.val + 10, h10⟩)
  simp only [par_eight] at ht
  unfold atC stepC
  rw [e8, e10, e9, from_split (⟨k.val, h0⟩ : Fin 8), upto_split (⟨k.val, h0⟩ : Fin 8)]
  iintro ⟨#HI, #Hlev, Hm, Hm', Ho, ⟨Hd, HF⟩, HU, HO⟩
  iapply (last ht) $$ [Hm Ho Hd HO]
  · isplitr; · iexact HI
    isplitr; · iexact Hlev
    isplitl [Hm]; · iexact Hm
    isplitl [Ho]; · iexact Ho
    isplitl [Hd]; · iexact Hd
    iexact HO
  iintro %_ ⟨Hm, Ho, Ht, HO⟩
  isplitr; · iexact HI
  isplitr; · iexact Hlev
  isplitl [Hm']; · iexact Hm'
  isplitl [Hm]; · iexact Hm
  isplitl [Ho]; · iexact Ho
  isplitl [HF]; · iexact HF
  isplitr [HO]
  · isplitl [Ht]; · iexact Ht
    iexact HU
  iexact HO

/-- A slot in the last two steps: before its step the own rows are on their way, after it the slot is free. -/
def lastMine (n : ℕ) (s : Fin 2) : sProp 𝕄 :=
  if n ≤ s.val then mineAt P c ⟨s.val + 14, by omega⟩ else idle P c s

theorem last_on (n : ℕ) (s : Fin 2) (h : n ≤ s.val) : lastMine P c n s = mineAt P c ⟨s.val + 14, by omega⟩ := if_pos h
theorem last_off (n : ℕ) (s : Fin 2) (h : ¬ n ≤ s.val) : lastMine P c n s = idle P c s := if_neg h

/-- Before step `n` of the last two. -/
def atC' (n : ℕ) : sProp 𝕄 :=
  iprop(invs (sent P) K ∗ levAts L lv ∗ lastMine P c n 0 ∗ lastMine P c n 1 ∗ outlet (F := F) c
    ∗ bigSep (From (n + 6)) (toTake (F := F) c) ∗ bigSep (Upto (n + 6)) (taken P gam c) ∗ Owes (F := F) c 8 8)

theorem stepC'_ok (k : Fin 2) : atC' P gam K c k.val ⊢ Runs c (stepC' gam c k) (fun _ => atC' P gam K c (k.val + 1)) := by
  have h6 : k.val + 6 < 8 := by omega
  have hp : par (k.val + 14) = k := by revert k; decide
  have hq : par (k.val + 6) = par k.val := by revert k; decide
  have ht := take_ok P gam K c ⟨k.val + 6, h6⟩ (pure ⟨⟩) (idle P c k) (by
    rw [show par (k.val + 6 + 8) = k from hp]; exact fupd_intro)
  simp only [par_eight, hq] at ht
  have hsw : iprop(lastMine P c k.val 0 ∗ lastMine P c k.val 1) ⊢ iprop(mineAt P c ⟨k.val + 14, by omega⟩
      ∗ (idle P c k -∗ iprop(lastMine P c (k.val + 1) 0 ∗ lastMine P c (k.val + 1) 1))) := by
    match k with
    | 0 =>
      rw [last_on P c (0 : Fin 2).val 0 (by decide), last_on P c (0 : Fin 2).val 1 (by decide),
        last_off P c ((0 : Fin 2).val + 1) 0 (by decide), last_on P c ((0 : Fin 2).val + 1) 1 (by decide)]
      iintro ⟨H0, H1⟩; isplitl [H0]; · iexact H0
      iintro H; isplitl [H]; · iexact H
      iexact H1
    | 1 =>
      rw [last_off P c (1 : Fin 2).val 0 (by decide), last_on P c (1 : Fin 2).val 1 (by decide),
        last_off P c ((1 : Fin 2).val + 1) 0 (by decide), last_off P c ((1 : Fin 2).val + 1) 1 (by decide)]
      iintro ⟨H0, H1⟩; isplitl [H1]; · iexact H1
      iintro H; isplitl [H0]; · iexact H0
      iexact H
  unfold atC' stepC'
  rw [show k.val + 1 + 6 = k.val + 6 + 1 by omega, from_split (⟨k.val + 6, h6⟩ : Fin 8), upto_split (⟨k.val + 6, h6⟩ : Fin 8)]
  iintro ⟨#HI, #Hlev, Hm, Hm', Ho, ⟨Hd, HF⟩, HU, HO⟩
  ihave Hs := hsw $$ [Hm Hm']
  · isplitl [Hm]; · iexact Hm
    iexact Hm'
  icases Hs with ⟨Hm, Hback⟩
  iapply (last ht) $$ [Hm Ho Hd HO]
  · isplitr; · iexact HI
    isplitr; · iexact Hlev
    isplitl [Hm]; · iexact Hm
    isplitl [Ho]; · iexact Ho
    isplitl [Hd]; · iexact Hd
    iexact HO
  iintro %_ ⟨Hi, Ho, Ht, HO⟩
  ihave Hs := Hback $$ Hi
  icases Hs with ⟨Hm, Hm'⟩
  isplitr; · iexact HI
  isplitr; · iexact Hlev
  isplitl [Hm]; · iexact Hm
  isplitl [Hm']; · iexact Hm'
  isplitl [Ho]; · iexact Ho
  isplitl [HF]; · iexact HF
  isplitr [HO]
  · isplitl [Ht]; · iexact Ht
    iexact HU
  iexact HO

/-! ## The loop that waits for the departures -/

/-- A chunk sent on both axes and not yet known to have left. -/
def leaving (k : Fin 8) : sProp 𝕄 :=
  iprop(due (F := F) c 0 k ∗ posAt (F := F) c 0 0 k ∗ due (F := F) c 2 k ∗ posAt (F := F) c 2 0 k)
/-- A chunk that has left. -/
def gone (k : Fin 8) : sProp 𝕄 :=
  iprop(posAt (F := F) c 0 1 k ∗ posAt (F := F) c 2 1 k ∗ owns (c : Thread nD τ) (rowX k) fullShare (sent P c k)
    ∗ owns (c : Thread nD τ) (near c k) (fullShare : PosShare TreeShare).right (sent P (px c) k))

/-- Before step `n` of the loop that waits for the departures. -/
def atD (n : ℕ) : sProp 𝕄 :=
  iprop(invs (sent P) K ∗ levAts L lv ∗ bigSep (From n) (leaving (F := F) c) ∗ bigSep (Upto n) (gone P c) ∗ Owes (F := F) c 8 8)

theorem stepD_ok (k : Fin 8) : atD P K c k.val ⊢ Runs c (stepD c k) (fun _ => atD P K c (k.val + 1)) := by
  unfold atD stepD
  rw [from_split k, upto_split k]
  unfold leaving
  iintro ⟨#HI, #Hlev, ⟨⟨Hd0, Ha0, Hd2, Ha2⟩, HF⟩, HU, HO⟩
  iapply (step (await_ok (sent P) K c 0 k 8 8 _ _ _ _ (N_row k) _ (le_refl _) (.inl rfl) (.inl rfl))) $$ [Hd0 Ha0 HO]
  · isplitr; · iexact HI
    isplitr; · iexact Hlev
    isplitl [Hd0]; · iexact Hd0
    isplitl [Ha0]; · iexact Ha0
    iexact HO
  iintro %_ ⟨Hx, Ha0, HO⟩
  iapply (last (await_ok (sent P) K c 2 k 8 8 _ _ _ _ (N_near c k) _ (le_refl _) (.inl rfl) (.inl rfl))) $$ [Hd2 Ha2 HO]
  · isplitr; · iexact HI
    isplitr; · iexact Hlev
    isplitl [Hd2]; · iexact Hd2
    isplitl [Ha2]; · iexact Ha2
    iexact HO
  iintro %_ ⟨Hr, Ha2, HO⟩
  ihave Hx := (Entails.of_eq (show dmaPay (sent P) c 0 k = owns (c : Thread nD τ) (rowX k) fullShare (sent P c k) from rfl)) $$ Hx
  ihave Hr := (Entails.of_eq (show dmaPay (sent P) c 2 k
    = owns (c : Thread nD τ) (near c k) (fullShare : PosShare TreeShare).right (sent P (px c) k) from rfl)) $$ Hr
  isplitr; · iexact HI
  isplitr; · iexact Hlev
  isplitl [HF]; · iexact HF
  isplitr [HO]
  · isplitr [HU]
    · unfold gone
      isplitl [Ha0]; · iexact Ha0
      isplitl [Ha2]; · iexact Ha2
      isplitl [Hx]; · iexact Hx
      iexact Hr
    iexact HU
  iexact HO

end Cert.KernelIdeal.Run

end
-- ==== Proof.Body.lean ====
/- The whole body: what it takes on a device, what it leaves, and that it runs from the one to the other. -/
module

public import proofs.«01_k».proof.Proof.Loops

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open Cert.KernelIdeal.Gen (k0_pay1 k0_pay9 k0_pay35)

variable {F : FTy → Type} [FloatOps F]

local notation "𝕄" => MT nD τ sig Unit (Elt F) ℕ UU ℕ

variable (P : Dev nD → main_v1.ty.Contents (Elt F)) (K : GSem nD τ sig → ℕ) (c : Dev nD)

/-! ## Families over the chunks -/

theorem zip {Φ Ψ Θ : Fin 8 → sProp 𝕄} (h : ∀ k, iprop(Φ k ∗ Ψ k) ⊢ Θ k) :
    iprop(bigSep Finset.univ Φ ∗ bigSep Finset.univ Ψ) ⊢ bigSep Finset.univ Θ := by
  rw [← bigSep_sep']; exact bigSep_mono fun k _ => h k
theorem unzip {Φ Ψ Θ : Fin 8 → sProp 𝕄} (h : ∀ k, Θ k ⊢ iprop(Φ k ∗ Ψ k)) :
    bigSep Finset.univ Θ ⊢ iprop(bigSep Finset.univ Φ ∗ bigSep Finset.univ Ψ) := by
  rw [← bigSep_sep']; exact bigSep_mono fun k _ => h k

/-! ## What the body takes and leaves -/

/-- The gamma row in its staging buffer. -/
abbrev gammaAt (g : cc0_stg0_0.ty.Contents (Elt F)) : sProp 𝕄 := (Memref.whole cc0_stg0_0).view.loc (c : Thread nD τ) ↦{fullShare} g
/-- What stays on the device throughout: the partial sums, the slots and the buffer of finished rows. -/
def desk : sProp 𝕄 :=
  iprop(src c fullShare (P c) ∗ outlet (F := F) c ∗ (free (F := F) c aPin cc0_scratch9 0 ∗ free (F := F) c aPin cc0_scratch9 1)
    ∗ (free (F := F) c aMine cc0_scratch10 0 ∗ free (F := F) c aMine cc0_scratch10 1))
/-- What it takes to send chunk `k`, besides the room at the receiver. -/
def sendable (k : Fin 8) : sProp 𝕄 :=
  iprop((dutyTok ER (cell c 0 k) 0 false ∗ dutyTok ER (cell (px c) 1 k) 0 false) ∗ reached ER (cell c 0 k) 0
    ∗ ∃ v : Vec F S128x2048 .bf16, owns (c : Thread nD τ) (rowX k) fullShare v)
/-- What it takes to pass chunk `k` on, besides the room at the receiver. -/
def passable (k : Fin 8) : sProp 𝕄 :=
  iprop((due (F := F) c 1 k ∗ posAt (F := F) c 1 0 k)
    ∗ ((dutyTok ER (cell c 2 k) 0 false ∗ dutyTok ER (cell (pz c) 3 k) 0 false) ∗ reached ER (cell c 2 k) 0)
    ∗ ∃ v : Vec F S128x2048 .f32, owns (c : Thread nD τ) (resNear c k) fullShare v)
/-- The positions on the departures of chunk `k`. -/
def departs (k : Fin 8) : sProp 𝕄 := iprop(posAt (F := F) c 0 0 k ∗ posAt (F := F) c 2 0 k)
/-- A chunk taken in and passed on, its departure known. -/
def kept (gam : FVec F S1x2048 .f32) (k : Fin 8) : sProp 𝕄 :=
  iprop(posAt (F := F) c 1 1 k ∗ owns (c : Thread nD τ) (near c k) (fullShare : PosShare TreeShare).left (sent P (px c) k)
    ∗ owns (c : Thread nD τ) (resNear c k) fullShare (outNear P gam c k))

theorem sendable_toSend (k : Fin 8) :
    iprop(sendable (F := F) c k ∗ ((∃ v, owns (px c : Thread nD τ) (near c k) fullShare v) ∗ reached ER (cell (px c) 1 k) 0))
      ⊢ toSend (F := F) c k := by
  unfold sendable toSend ticketX
  iintro ⟨⟨Ht, Hr, Hx⟩, Hd, Hp⟩
  isplitr [Hx]
  · isplitl [Ht]; · iexact Ht
    isplitl [Hr]; · iexact Hr
    isplitl [Hd]; · iexact Hd
    iexact Hp
  iexact Hx
theorem passable_toPass (k : Fin 8) :
    iprop(passable (F := F) c k ∗ ((∃ v, owns (pz c : Thread nD τ) (near c k) fullShare v) ∗ reached ER (cell (pz c) 3 k) 0))
      ⊢ toPass (F := F) c k := by
  unfold passable toPass ticketZ
  iintro ⟨⟨⟨Hd1, Ha1⟩, ⟨Ht, Hr⟩, Hx⟩, Hd, Hp⟩
  isplitl [Hd1]; · iexact Hd1
  isplitl [Ha1]; · iexact Ha1
  isplitr [Hx]
  · isplitl [Ht]; · iexact Ht
    isplitl [Hr]; · iexact Hr
    isplitl [Hd]; · iexact Hd
    iexact Hp
  iexact Hx
theorem passed_kept (gam : FVec F S1x2048 .f32) (k : Fin 8) : passed P gam c k ⊢ iprop(due (F := F) c 2 k ∗ kept P c gam k) := by
  unfold passed kept
  exact BI.Entails.refl _
theorem leaving_intro (k : Fin 8) : iprop(iprop(due (F := F) c 0 k ∗ due (F := F) c 2 k) ∗ departs (F := F) c k) ⊢ leaving (F := F) c k := by
  unfold departs leaving
  iintro ⟨⟨H0, H2⟩, Ha0, Ha2⟩
  isplitl [H0]; · iexact H0
  isplitl [Ha0]; · iexact Ha0
  isplitl [H2]; · iexact H2
  iexact Ha2

/-- What the body takes. -/
def entry (W : Waits sig Unit) (g : cc0_stg0_0.ty.Contents (Elt F)) : sProp 𝕄 :=
  iprop(iprop(invs (sent P) K ∗ levAts L lv ∗ owes (c : Thread nD τ) (O₀ c) W ∗ cred (tallyAt (barCell c) () 2) ∗ atPos ER (barCell c) 0 ∅ 0
        ∗ (dutyTok ER (barCell (px c)) 0 false ∗ dutyTok ER (barCell (pz c)) 0 true)
        ∗ (reached ER (barCell (px c)) 0 ∗ reached ER (barCell (pz c)) 0)
        ∗ barPay (px c) false ∗ barPay (pz c) true)
    ∗ (bigSep Finset.univ (sendable (F := F) c) ∗ bigSep Finset.univ (passable (F := F) c) ∗ bigSep Finset.univ (toTake (F := F) c)
        ∗ bigSep Finset.univ (departs (F := F) c))
    ∗ desk P c ∗ gammaAt c g)
/-- What it leaves. -/
def exit (gam : FVec F S1x2048 .f32) (g : cc0_stg0_0.ty.Contents (Elt F)) : sProp 𝕄 :=
  iprop(invs (sent P) K ∗ atPos ER (barCell c) 1 ∅ 0 ∗ Owes (F := F) c 8 8
    ∗ (bigSep Finset.univ (gone P c) ∗ bigSep Finset.univ (kept P c gam) ∗ bigSep Finset.univ (taken P gam c))
    ∗ desk P c ∗ gammaAt c g)

/-- The gamma row is read. -/
theorem readGamma_ok (g : cc0_stg0_0.ty.Contents (Elt F)) (hl) :
    (gammaAt c g : sProp 𝕄) ⊢ Runs c (Prog.lift (.load (Memref.whole cc0_stg0_0)
        (Rect.unit (s := S1x2048) ![0, 0] S1x2048.size inb_S1x2048_S1x2048_0_0).toLoadRect hl))
      (fun v => iprop(⌜v = g⌝ ∗ gammaAt c g)) := by
  iintro H
  iapply (wp_load 𝒱₀ (c : Thread nD τ) none Set.univ (m := Memref.whole cc0_stg0_0) (S := Finset.univ) (q := fullShare) (f := g) (Finset.subset_univ _)) $$ H
  iintro H
  rw [wp_ret]; imodintro
  isplitr
  · ipureintro
    exact Memref.readAt_unit_zero (Elt F) cc0_stg0_0 (show (![0, 0] : Fin 2 → ℕ) = fun _ => 0 by decide) _ g
  iexact H

/-- The loop that sends, with its prologue and its last chunk. -/
theorem sending_ok {α : Type} (q : PUnit → KProg F α) (Q : α → sProp 𝕄) :
    iprop(invs (sent P) K ∗ levAts L lv ∗ bigSep Finset.univ (toSend (F := F) c) ∗ src c (half 0) (P c)
        ∗ (free (F := F) c aPin cc0_scratch9 0 ∗ free (F := F) c aPin cc0_scratch9 1) ∗ Owes (F := F) c 0 0)
      ⊢ iprop((iprop(bigSep Finset.univ (due (F := F) c 0) ∗ src c (half 0) (P c)
            ∗ (free (F := F) c aPin cc0_scratch9 0 ∗ free (F := F) c aPin cc0_scratch9 1) ∗ Owes (F := F) c 8 0) -∗ Runs c (q ⟨⟩) Q)
        -∗ Runs c (startPin c 0 >>= fun _ => waitPin c 0 >>= fun _ => times 7 (stepA c) >>= fun _ => pack 7 >>= fun _ => sendX c 7 >>= q) Q) := by
  iintro ⟨#HI, #Hlev, HT, Hs, ⟨Hf0, Hf1⟩, HO⟩ Hk
  iapply (step (startPin_ok P c 0)) $$ [Hs Hf0]
  · isplitl [Hs]; · iexact Hs
    iexact Hf0
  iintro %_ HC
  iapply (step (waitPin_ok P c 0 0 0)) $$ [HC HO]
  · isplitr; · iexact Hlev
    isplitl [HC]; · iexact HC
    iexact HO
  iintro %_ ⟨Hp, Hs, HO⟩
  iapply (step (loop (atA P K c) (stepA_ok P K c))) $$ [HT Hp Hs Hf1 HO]
  · unfold atA
    rw [from_zero, upto_zero, bigSep_empty]
    isplitr; · iexact HI
    isplitr; · iexact Hlev
    isplitl [Hp]; · iexact Hp
    isplitl [Hf1]; · iexact Hf1
    isplitl [Hs]; · iexact Hs
    isplitl [HT]; · iexact HT
    isplitr; · iempintro
    iexact HO
  iintro %_ H
  unfold atA
  rw [show From 7 = From (7 : Fin 8).val from rfl, from_split 7, show From ((7 : Fin 8).val + 1) = ∅ from from_end, bigSep_empty]
  icases H with ⟨-, -, Hp, Hf0, Hs, ⟨HT, -⟩, Hd, HO⟩
  iapply (packSend_ok P K c 7 0) $$ [Hp HT HO]
  · isplitr; · iexact HI
    isplitl [Hp]; · iexact Hp
    isplitl [HT]; · iexact HT
    iexact HO
  iintro ⟨Hf1, Hd7, HO⟩
  iapply Hk
  isplitl [Hd Hd7]
  · rw [← upto_end, show Upto 8 = Upto ((7 : Fin 8).val + 1) from rfl, upto_split 7]
    isplitl [Hd7]; · iexact Hd7
    iexact Hd
  isplitl [Hs]; · iexact Hs
  isplitl [Hf0 Hf1]
  · isplitl [Hf0]; · iexact Hf0
    iexact Hf1
  iexact HO

/-- The three loops after it. -/
theorem receiving_ok (gam : FVec F S1x2048 .f32) :
    iprop(invs (sent P) K ∗ levAts L lv ∗ (idle P c 0 ∗ idle P c 1) ∗ outlet (F := F) c ∗ bigSep Finset.univ (toPass (F := F) c)
        ∗ bigSep Finset.univ (toTake (F := F) c) ∗ bigSep Finset.univ (departs (F := F) c) ∗ bigSep Finset.univ (due (F := F) c 0) ∗ Owes (F := F) c 8 0)
      ⊢ Runs c (do
          startMine c 0
          startMine c 1
          times 8 (stepB gam c)
          times 6 (stepC gam c)
          times 2 (stepC' gam c)
          times 8 (stepD c))
        (fun _ => iprop((idle P c 0 ∗ idle P c 1) ∗ outlet (F := F) c ∗ bigSep Finset.univ (gone P c) ∗ bigSep Finset.univ (kept P c gam)
          ∗ bigSep Finset.univ (taken P gam c) ∗ Owes (F := F) c 8 8)) := by
  iintro ⟨#HI, #Hlev, ⟨Hi0, Hi1⟩, Ho, HP, HT, Hdep, Hd0, HO⟩
  iapply (step (show idle P c 0 ⊢ Runs c (startMine c 0) (fun _ => mineAt P c 0) from startMine_ok P c 0)) $$ Hi0
  iintro %_ Hm0
  iapply (step (show idle P c 1 ⊢ Runs c (startMine c 1) (fun _ => mineAt P c 1) from startMine_ok P c 1)) $$ Hi1
  iintro %_ Hm1
  iapply (step (loop (atB P gam K c) (stepB_ok P gam K c))) $$ [Hm0 Hm1 Ho HP HO]
  · unfold atB
    rw [from_zero, upto_zero, bigSep_empty]
    isplitr; · iexact HI
    isplitr; · iexact Hlev
    isplitl [Hm0]; · iexact Hm0
    isplitl [Hm1]; · iexact Hm1
    isplitl [Ho]; · iexact Ho
    isplitl [HP]; · iexact HP
    isplitr; · iempintro
    iexact HO
  iintro %_ H
  unfold atB
  rw [upto_end]
  icases H with ⟨-, -, Hm0, Hm1, Ho, -, HU, HO⟩
  ihave HU := (unzip (passed_kept P c gam)) $$ HU
  icases HU with ⟨Hd2, HK⟩
  iapply (step (loop (atC P gam K c) (stepC_ok P gam K c))) $$ [Hm0 Hm1 Ho HT HO]
  · unfold atC
    rw [from_zero, upto_zero, bigSep_empty]
    isplitr; · iexact HI
    isplitr; · iexact Hlev
    isplitl [Hm0]; · iexact Hm0
    isplitl [Hm1]; · iexact Hm1
    isplitl [Ho]; · iexact Ho
    isplitl [HT]; · iexact HT
    isplitr; · iempintro
    iexact HO
  iintro %_ H
  unfold atC
  icases H with ⟨-, -, Hm0, Hm1, Ho, HT, HU, HO⟩
  iapply (step (loop (atC' P gam K c) (stepC'_ok P gam K c))) $$ [Hm0 Hm1 Ho HT HU HO]
  · unfold atC'
    rw [last_on P c 0 0 (by decide), last_on P c 0 1 (by decide)]
    isplitr; · iexact HI
    isplitr; · iexact Hlev
    isplitl [Hm0]; · iexact Hm0
    isplitl [Hm1]; · iexact Hm1
    isplitl [Ho]; · iexact Ho
    isplitl [HT]; · iexact HT
    isplitl [HU]; · iexact HU
    iexact HO
  iintro %_ H
  unfold atC'
  rw [show Upto (2 + 6) = Finset.univ from upto_end, last_off P c 2 0 (by decide), last_off P c 2 1 (by decide)]
  icases H with ⟨-, -, Hm0, Hm1, Ho, -, HU, HO⟩
  iapply (last (loop (atD P K c) (stepD_ok P K c))) $$ [Hd0 Hd2 Hdep HO]
  · unfold atD
    rw [from_zero, upto_zero, bigSep_empty]
    isplitr; · iexact HI
    isplitr; · iexact Hlev
    isplitl [Hd0 Hd2 Hdep]
    · iapply (zip (leaving_intro (F := F) c))
      isplitr [Hdep]
      · rw [bigSep_sep']
        isplitl [Hd0]; · iexact Hd0
        iexact Hd2
      iexact Hdep
    isplitr; · iempintro
    iexact HO
  iintro %_ H
  unfold atD
  rw [upto_end]
  icases H with ⟨-, -, -, HG, HO⟩
  isplitl [Hm0 Hm1]
  · isplitl [Hm0]; · iexact Hm0
    iexact Hm1
  isplitl [Ho]; · iexact Ho
  isplitl [HG]; · iexact HG
  isplitl [HK]; · iexact HK
  isplitl [HU]; · iexact HU
  iexact HO

/-- The body runs. -/
theorem body_ok (W : Waits sig Unit) (g : cc0_stg0_0.ty.Contents (Elt F)) :
    entry P K c W g ⊢ Runs c (form (Memref.whole cc0_stg0_0)) (fun _ => exit P K c (k0_pay9 g) g) := by
  rw [show form (F := F) (Memref.whole cc0_stg0_0) = Prog.op TpuEff.deviceId (fun d => meet d >>= fun _ => rest (Memref.whole cc0_stg0_0) d) from rfl,
    Runs, wp_deviceId]
  unfold entry desk
  iintro ⟨⟨#HI, #Hlev, Hmeet⟩, ⟨HS, HP, HT, Hdep⟩, ⟨Hs, Ho, Hpin, ⟨Hm0, Hm1⟩⟩, Hg⟩
  iapply (step (meet_ok (sent P) c K W)) $$ [Hmeet]
  · isplitr; · iexact HI
    isplitr; · iexact Hlev
    iexact Hmeet
  iintro %_ ⟨Hbx, Hbz, Hat, HO⟩
  ihave HS := (show iprop(bigSep Finset.univ (sendable (F := F) c) ∗ barPay c false) ⊢ bigSep Finset.univ (toSend (F := F) c) from
    zip (sendable_toSend (F := F) c)) $$ [HS Hbx]
  · isplitl [HS]; · iexact HS
    iexact Hbx
  ihave HP := (show iprop(bigSep Finset.univ (passable (F := F) c) ∗ barPay c true) ⊢ bigSep Finset.univ (toPass (F := F) c) from
    zip (passable_toPass (F := F) c)) $$ [HP Hbz]
  · isplitl [HP]; · iexact HP
    iexact Hbz
  ihave Hs := (pointsTo_share (PosShare.mem_left_op_right (fullShare : PosShare TreeShare))).1 $$ Hs
  icases Hs with ⟨Hsl, Hsr⟩
  unfold rest
  iapply (sending_ok P K c) $$ [HS Hsl Hpin HO]
  · isplitr; · iexact HI
    isplitr; · iexact Hlev
    isplitl [HS]; · iexact HS
    isplitl [Hsl]; · iexact Hsl
    isplitl [Hpin]; · iexact Hpin
    iexact HO
  iintro ⟨Hd0, Hsl, Hpin, HO⟩
  iapply (step (readGamma_ok c g _)) $$ Hg
  iintro %v ⟨%hv, Hg⟩
  subst hv
  iapply (last (receiving_ok P K c (k0_pay9 v))) $$ [Hsl Hsr Hm0 Hm1 Ho HP HT Hdep Hd0 HO]
  · isplitr; · iexact HI
    isplitr; · iexact Hlev
    isplitl [Hsl Hsr Hm0 Hm1]
    · unfold idle
      isplitl [Hsl Hm0]
      · isplitl [Hsl]; · iexact Hsl
        iexact Hm0
      isplitl [Hsr]; · iexact Hsr
      iexact Hm1
    isplitl [Ho]; · iexact Ho
    isplitl [HP]; · iexact HP
    isplitl [HT]; · iexact HT
    isplitl [Hdep]; · iexact Hdep
    isplitl [Hd0]; · iexact Hd0
    iexact HO
  unfold idle
  iintro %_ ⟨⟨⟨Hsl, Hm0⟩, ⟨Hsr, Hm1⟩⟩, Ho, HG, HK, HU, HO⟩
  unfold exit desk
  isplitr; · iexact HI
  isplitl [Hat]; · iexact Hat
  isplitl [HO]; · iexact HO
  isplitl [HG HK HU]
  · isplitl [HG]; · iexact HG
    isplitl [HK]; · iexact HK
    iexact HU
  isplitr [Hg]
  · isplitl [Hsl Hsr]
    · iapply (pointsTo_share (PosShare.mem_left_op_right (fullShare : PosShare TreeShare))).2
      isplitl [Hsl]; · iexact Hsl
      iexact Hsr
    isplitl [Ho]; · iexact Ho
    isplitl [Hpin]; · iexact Hpin
    isplitl [Hm0]; · iexact Hm0
    iexact Hm1
  iexact Hg

end Cert.KernelIdeal.Run

end
-- ==== Proof.Split.lean ====
/- Buffers cut into chunks of rows and put together again. -/
module

public import proofs.«01_k».proof.Proof.Body
public import Idealize.ShloMosaic.Lib.Ring

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open Cert.KernelIdeal.Gen (k0_pay1 k0_pay9 k0_pay35)

variable {F : FTy → Type} [FloatOps F] [∀ e, Nonempty (Elt F e)]

local notation "𝕄" => MT nD τ sig Unit (Elt F) ℕ UU ℕ

variable (c : Dev nD)

theorem two (Φ : Fin 2 → sProp 𝕄) : bigSep Finset.univ Φ = iprop(Φ 0 ∗ Φ 1) := BI.bigSep_fin_two Φ

theorem bigSep_ex {T : Type} [Fintype T] {α : T → Type} (Φ : (t : T) → α t → sProp 𝕄) (v : (t : T) → α t) :
    bigSep Finset.univ (fun t => Φ t (v t)) ⊢ bigSep Finset.univ (fun t => iprop(∃ v, Φ t v)) :=
  bigSep_mono fun t _ => show Φ t (v t) ⊢ iprop(∃ v, Φ t v) from by iintro H; iexists (v t); iexact H

/-! ## The two halves of a 2048-row buffer -/

/-- The offset of chunk `k` in the half received along x (`0`) or along z (`1`). -/
abbrev halfO (t : Fin 2 × Fin 8) : Fin 2 → ℕ := match t.1 with | 0 => nearO c t.2 | 1 => farO c t.2
theorem halfO_inb (t : Fin 2 × Fin 8) : ∀ a, halfO c t a + S128x2048.size a ≤ S2048x2048.size a := by
  obtain ⟨b, k⟩ := t
  match b with
  | 0 => exact k0_off2_inb c k
  | 1 => exact k0_off6_inb c k
abbrev halfR (t : Fin 2 × Fin 8) : Rect S2048x2048 := Rect.unit (s := S2048x2048) (halfO c t) S128x2048.size (halfO_inb c t)

/-- The number of that chunk among the sixteen. -/
def chunkNo (t : Fin 2 × Fin 8) : Fin 16 :=
  ⟨8 * (if t.1 = 0 then c.val % 4 % 2 else 1 - c.val % 4 % 2) + t.2.val, by have := t.2.isLt; split <;> omega⟩
theorem chunkNo_inj : Function.Injective (chunkNo c) := by
  rintro ⟨a, k⟩ ⟨b, l⟩ h
  have h := congrArg Fin.val h
  simp only [chunkNo] at h
  have hk := k.isLt; have hl := l.isLt
  have hab : a = b ∧ k.val = l.val := by
    match a, b with
    | 0, 0 => simp at h ⊢; omega
    | 0, 1 => simp at h ⊢; omega
    | 1, 0 => simp at h ⊢; omega
    | 1, 1 => simp at h ⊢; omega
  exact Prod.ext hab.1 (Fin.ext hab.2)
theorem chunkNo_surj : Function.Surjective (chunkNo c) :=
  ((Fintype.bijective_iff_injective_and_card _).mpr ⟨chunkNo_inj c, by decide⟩).2

theorem halfO_eq (t : Fin 2 × Fin 8) : halfO c t = ![128 * (chunkNo c t).val, 0] := by
  obtain ⟨b, k⟩ := t
  match b with
  | 0 => exact nearO_eq c k
  | 1 => exact farO_eq c k

theorem inbJ (j : Fin 16) : ∀ a, (![128 * j.val, 0] : Fin 2 → ℕ) a + S128x2048.size a ≤ S2048x2048.size a := by revert j; decide
abbrev rectJ (j : Fin 16) : Rect S2048x2048 := Rect.unit (s := S2048x2048) ![128 * j.val, 0] S128x2048.size (inbJ j)

theorem halfR_set (t : Fin 2 × Fin 8) : (halfR c t).set = (rectJ (chunkNo c t)).set := by
  have (o o' : Fin 2 → ℕ) (h) (h') (e : o = o') :
      (Rect.unit (s := S2048x2048) o S128x2048.size h).set = (Rect.unit (s := S2048x2048) o' S128x2048.size h').set := by subst e; rfl
  exact this _ _ _ _ (halfO_eq c t)

theorem half_disjoint (t t' : Fin 2 × Fin 8) (h : t ≠ t') : Disjoint (halfR c t).set (halfR c t').set := by
  rw [halfR_set, halfR_set]
  exact Ring.lead_disjoint (s := S2048x2048) (R := 128) (NB := 16) (0 : Fin 2) (fun j => ![128 * j.val, 0]) S128x2048.size inbJ (fun _ => rfl) rfl
    _ _ (fun e => h (chunkNo_inj c e))
theorem half_cover : (Finset.univ : Finset (Fin 2 × Fin 8)).biUnion (fun t => (halfR c t).set) = Finset.univ := by
  have hc := Ring.lead_cover (s := S2048x2048) (R := 128) (NB := 16) (0 : Fin 2) (fun j => ![128 * j.val, 0]) S128x2048.size inbJ (fun _ => rfl)
    (by decide) rfl (by decide) rfl
  refine Finset.eq_univ_iff_forall.mpr fun i => ?_
  obtain ⟨j, -, hj⟩ := Finset.mem_biUnion.mp (hc.symm ▸ Finset.mem_univ i)
  obtain ⟨t, rfl⟩ := chunkNo_surj c j
  exact Finset.mem_biUnion.mpr ⟨t, Finset.mem_univ _, by rw [halfR_set]; exact hj⟩

theorem halves_split {sp : Space} {e : EltTy} (a : Memref sig .tc sp S2048x2048 e) (X : S2048x2048.Idx → Elt F e) :
    (owns (c : Thread nD τ) a fullShare X : sProp 𝕄)
      ⊢ iprop(bigSep Finset.univ (fun k : Fin 8 => iprop(∃ v, owns (c : Thread nD τ) (a.slice (halfR c (0, k)) (fun _ => rfl)) fullShare v))
        ∗ bigSep Finset.univ (fun k : Fin 8 => iprop(∃ v, owns (c : Thread nD τ) (a.slice (halfR c (1, k)) (fun _ => rfl)) fullShare v))) := by
  refine (owns_rects (c : Thread nD τ) a fullShare (halfR c) (fun _ _ => rfl) (half_disjoint c) (half_cover c) X).trans ?_
  refine (bigSep_ex (fun t v => owns (c : Thread nD τ) (a.slice (halfR c t) (fun _ => rfl)) fullShare v) _).trans ?_
  rw [bigSep_univ_prod, two]

theorem halves_join {sp : Space} {e : EltTy} (a : Memref sig .tc sp S2048x2048 e) (Y : (t : Fin 2 × Fin 8) → (halfR c t).shape.Idx → Elt F e) :
    iprop(bigSep Finset.univ (fun k : Fin 8 => (owns (c : Thread nD τ) (a.slice (halfR c (0, k)) (fun _ => rfl)) fullShare (Y (0, k)) : sProp 𝕄))
        ∗ bigSep Finset.univ (fun k : Fin 8 => owns (c : Thread nD τ) (a.slice (halfR c (1, k)) (fun _ => rfl)) fullShare (Y (1, k))))
      ⊢ owns (c : Thread nD τ) a fullShare (Rect.glue (halfR c) (half_cover c) Y) := by
  refine Entails.trans (Entails.of_eq ?_)
    (owns_of_rects (c : Thread nD τ) a fullShare (halfR c) (fun _ _ => rfl) (half_disjoint c) (half_cover c) (Rect.glue (halfR c) (half_cover c) Y))
  rw [bigSep_univ_prod, two]
  simp only [Rect.glue_emb (halfR c) (half_cover c) (half_disjoint c) Y]

/-! ## The rows to send -/

theorem rectX_disjoint (k k' : Fin 8) (h : k ≠ k') : Disjoint (rectX k).set (rectX k').set :=
  Ring.lead_disjoint (s := S1024x2048) (R := 128) (NB := 8) (0 : Fin 2) (fun j => ![128 * j.val, 0]) S128x2048.size inbX (fun _ => rfl) rfl _ _ h
theorem rectX_cover : (Finset.univ : Finset (Fin 8)).biUnion (fun k => (rectX k).set) = Finset.univ :=
  Ring.lead_cover (s := S1024x2048) (R := 128) (NB := 8) (0 : Fin 2) (fun j => ![128 * j.val, 0]) S128x2048.size inbX (fun _ => rfl)
    (by decide) rfl (by decide) rfl

theorem send_split (f : cc0_scratch0.ty.Contents (Elt F)) :
    ((c : Thread nD τ).loc cc0_scratch0 ↦{fullShare} f : sProp 𝕄)
      ⊢ bigSep Finset.univ (fun k : Fin 8 => iprop(∃ v, owns (c : Thread nD τ) (rowX k) fullShare v)) := by
  rw [← owns_whole (c : Thread nD τ) cc0_scratch0 fullShare f]
  exact (owns_rects (c : Thread nD τ) aX fullShare rectX (fun _ _ => rfl) rectX_disjoint rectX_cover f).trans
    (bigSep_ex (fun t v => owns (c : Thread nD τ) (rowX t) fullShare v) _)
theorem send_join (Y : Fin 8 → Vec F S128x2048 .bf16) :
    bigSep Finset.univ (fun k : Fin 8 => (owns (c : Thread nD τ) (rowX k) fullShare (Y k) : sProp 𝕄))
      ⊢ iprop(∃ f : cc0_scratch0.ty.Contents (Elt F), (c : Thread nD τ).loc cc0_scratch0 ↦{fullShare} f) := by
  refine Entails.trans (Entails.of_eq ?_)
    ((owns_of_rects (c : Thread nD τ) aX fullShare rectX (fun _ _ => rfl) rectX_disjoint rectX_cover (Rect.glue rectX rectX_cover Y)).trans ?_)
  · simp only [Rect.glue_emb rectX rectX_cover rectX_disjoint Y]
  · rw [owns_whole]; iintro H; iexists _; iexact H

/-! ## The slots -/

theorem rectS_disjoint (s s' : Fin 2) (h : s ≠ s') : Disjoint (rectS s).set (rectS s').set :=
  Ring.lead_disjoint (s := S2x128x2048) (R := 1) (NB := 2) (0 : Fin 3) (fun j => ![j.val, 0, 0]) S1x128x2048.size inbS (by decide) rfl _ _ h
theorem rectS_cover : (Finset.univ : Finset (Fin 2)).biUnion (fun s => (rectS s).set) = Finset.univ :=
  Ring.lead_cover (s := S2x128x2048) (R := 1) (NB := 2) (0 : Fin 3) (fun j => ![j.val, 0, 0]) S1x128x2048.size inbS (by decide)
    (by decide) rfl (by decide) rfl

theorem someSlot_eq (a : Memref sig .tc .vmem S2x128x2048 .f32) (s : Fin 2) :
    iprop(∃ v, owns (c : Thread nD τ) (a.slice (rectS s) (fun _ => rfl)) fullShare v) ⊢ (someSlot (F := F) c a s : sProp 𝕄) := by
  iintro ⟨%v, H⟩
  iexists (fun x => v (Shape.reshapeEquiv squeezes_S1x128x2048_S128x2048.numel_eq x))
  rw [owns_slot, show up (fun x => v (Shape.reshapeEquiv squeezes_S1x128x2048_S128x2048.numel_eq x)) = v from
    funext fun y => congrArg v (Equiv.apply_symm_apply _ y)]
  iexact H

theorem slots_split (a : Memref sig .tc .vmem S2x128x2048 .f32) (X : S2x128x2048.Idx → Elt F .f32) :
    (owns (c : Thread nD τ) a fullShare X : sProp 𝕄) ⊢ iprop(someSlot (F := F) c a 0 ∗ someSlot (F := F) c a 1) := by
  refine (owns_rects (c : Thread nD τ) a fullShare rectS (fun _ _ => rfl) rectS_disjoint rectS_cover X).trans ?_
  refine (bigSep_ex (fun t v => owns (c : Thread nD τ) (a.slice (rectS t) (fun _ => rfl)) fullShare v) _).trans ?_
  refine (bigSep_mono fun s _ => someSlot_eq c a s).trans ?_
  rw [two]
  exact BI.Entails.refl _
theorem slots_join (a : Memref sig .tc .vmem S2x128x2048 .f32) :
    iprop(someSlot (F := F) c a 0 ∗ someSlot (F := F) c a 1) ⊢ iprop(∃ X, owns (c : Thread nD τ) a fullShare X) := by
  simp only [someSlot, owns_slot]
  iintro ⟨⟨%v, H0⟩, ⟨%w, H1⟩⟩
  iexists (Rect.glue rectS rectS_cover (fun s => if s = 0 then up v else up w))
  iapply (owns_of_rects (c : Thread nD τ) a fullShare rectS (fun _ _ => rfl) rectS_disjoint rectS_cover _)
  simp only [Rect.glue_emb rectS rectS_cover rectS_disjoint]
  rw [two]
  isplitl [H0]; · iexact H0
  iexact H1

end Cert.KernelIdeal.Run

end
-- ==== Proof.Enter.lean ====
/- From the device's whole buffers and its ghost state to what the body takes, and back. -/
module

public import proofs.«01_k».proof.Proof.Split
public import proofs.«01_k».proof.Proof.Gen.KernelIdeal.Launch

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open Cert.KernelIdeal.Gen (k0_pay1 k0_pay9 k0_pay35)

variable {F : FTy → Type} [FloatOps F] [∀ e, Nonempty (Elt F e)]

local notation "𝕄" => MT nD τ sig Unit (Elt F) ℕ UU ℕ

variable (P : Dev nD → main_v1.ty.Contents (Elt F)) (K : GSem nD τ sig → ℕ) (c : Dev nD)

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## Whole buffers, cut up -/

/-- The kernel's scratch buffers, whole. -/
def scratches : sProp 𝕄 :=
  iprop((∃ f : cc0_scratch0.ty.Contents (Elt F), ((c : Thread nD τ).loc cc0_scratch0) ↦{fullShare} f)
    ∗ (∃ f : cc0_scratch1.ty.Contents (Elt F), ((c : Thread nD τ).loc cc0_scratch1) ↦{fullShare} f)
    ∗ (∃ f : cc0_scratch2.ty.Contents (Elt F), ((c : Thread nD τ).loc cc0_scratch2) ↦{fullShare} f)
    ∗ (∃ f : cc0_scratch3.ty.Contents (Elt F), ((c : Thread nD τ).loc cc0_scratch3) ↦{fullShare} f)
    ∗ (∃ f : cc0_scratch4.ty.Contents (Elt F), ((c : Thread nD τ).loc cc0_scratch4) ↦{fullShare} f))

/-- Every row the body writes that belongs to chunk `k`. -/
def roomAt (k : Fin 8) : sProp 𝕄 :=
  iprop(((∃ v, owns (c : Thread nD τ) (near c k) fullShare v) ∗ (∃ v, owns (c : Thread nD τ) (far c k) fullShare v))
    ∗ (∃ v, owns (c : Thread nD τ) (rowX k) fullShare v)
    ∗ ((∃ v, owns (c : Thread nD τ) (resNear c k) fullShare v) ∗ (∃ v, owns (c : Thread nD τ) (resFar c k) fullShare v)))

/-- The slots and the buffer of finished rows. -/
def spare : sProp 𝕄 :=
  iprop((someSlot (F := F) c aPin 0 ∗ someSlot (F := F) c aPin 1) ∗ (someSlot (F := F) c aMine 0 ∗ someSlot (F := F) c aMine 1) ∗ someBuf (F := F) c)

theorem room (f : main_v3.ty.Contents (Elt F)) :
    iprop(scratches (F := F) c ∗ (((c : Thread nD τ).loc main_v3) ↦{fullShare} f : sProp 𝕄))
      ⊢ iprop(bigSep Finset.univ (roomAt (F := F) c) ∗ spare (F := F) c) := by
  unfold scratches roomAt spare
  rw [bigSep_sep', bigSep_sep', bigSep_sep', bigSep_sep']
  iintro ⟨⟨⟨%f0, H0⟩, ⟨%f1, H1⟩, ⟨%f2, H2⟩, ⟨%f3, H3⟩, ⟨%f4, H4⟩⟩, Ho⟩
  ihave H0 := (send_split c f0) $$ H0
  ihave H1 := ((Entails.of_eq (owns_whole (c : Thread nD τ) cc0_scratch1 fullShare f1).symm).trans (halves_split c aR f1)) $$ H1
  ihave H2 := ((Entails.of_eq (owns_whole (c : Thread nD τ) cc0_scratch2 fullShare f2).symm).trans (slots_split c aPin f2)) $$ H2
  ihave H3 := ((Entails.of_eq (owns_whole (c : Thread nD τ) cc0_scratch3 fullShare f3).symm).trans (slots_split c aMine f3)) $$ H3
  ihave Ho := ((Entails.of_eq (owns_whole (c : Thread nD τ) main_v3 fullShare f).symm).trans (halves_split c aO f)) $$ Ho
  isplitl [H0 H1 Ho]
  · isplitl [H1]; · iexact H1
    isplitl [H0]; · iexact H0
    iexact Ho
  isplitl [H2]; · iexact H2
  isplitl [H3]; · iexact H3
  unfold someBuf
  iexists f4; iexact H4

/-! ## Ghost state, chunk by chunk -/

def opensAt (k : Fin 8) : sProp 𝕄 :=
  bigSep Finset.univ fun i : Fin 4 => iprop(atPos ER (cell c i k) 0 ∅ 0 ∗ reached ER (cell c i k) 0)
def toksAt (k : Fin 8) : sProp 𝕄 :=
  iprop((dutyTok ER (cell c 0 k) 0 false ∗ dutyTok ER (cell (px c) 1 k) 0 false) ∗ (dutyTok ER (cell c 2 k) 0 false ∗ dutyTok ER (cell (pz c) 3 k) 0 false))
def duesAt (k : Fin 8) : sProp 𝕄 := iprop(due (F := F) c 1 k ∗ due (F := F) c 3 k)

theorem chunk_ready (k : Fin 8) :
    iprop((opensAt (F := F) c k ∗ toksAt (F := F) c k) ∗ duesAt (F := F) c k ∗ roomAt (F := F) c k)
      ⊢ iprop(sendable (F := F) c k ∗ passable (F := F) c k ∗ toTake (F := F) c k ∗ departs (F := F) c k
        ∗ ((∃ v, owns (c : Thread nD τ) (near c k) fullShare v) ∗ reached ER (cell c 1 k) 0)
        ∗ ((∃ v, owns (c : Thread nD τ) (far c k) fullShare v) ∗ reached ER (cell c 3 k) 0)) := by
  unfold opensAt toksAt duesAt roomAt sendable passable toTake departs posAt
  rw [four]
  iintro ⟨⟨⟨⟨A0, R0⟩, ⟨A1, R1⟩, ⟨A2, R2⟩, ⟨A3, R3⟩⟩, T01, T23⟩, ⟨D1, D3⟩, ⟨Hn, Hf⟩, Hx, Hrn, Hrf⟩
  isplitl [T01 R0 Hx]
  · isplitl [T01]; · iexact T01
    isplitl [R0]; · iexact R0
    iexact Hx
  isplitl [D1 A1 T23 R2 Hrn]
  · isplitl [D1 A1]
    · isplitl [D1]; · iexact D1
      iexact A1
    isplitl [T23 R2]
    · isplitl [T23]; · iexact T23
      iexact R2
    iexact Hrn
  isplitl [D3 A3 Hrf]
  · isplitl [D3]; · iexact D3
    isplitl [A3]; · iexact A3
    iexact Hrf
  isplitl [A0 A2]
  · isplitl [A0]; · iexact A0
    iexact A2
  isplitl [Hn R1]
  · isplitl [Hn]; · iexact Hn
    iexact R1
  isplitl [Hf]; · iexact Hf
  iexact R3

theorem bar_near (k : Fin 8) :
    iprop((∃ v, owns (c : Thread nD τ) (near c k) fullShare v) ∗ reached ER (cell c 1 k) 0)
      ⊢ (iprop((∃ v, owns (px (px c) : Thread nD τ) (near (px c) k) fullShare v) ∗ reached ER (cell (px (px c)) 1 k) 0) : sProp 𝕄) := by
  rw [px_px, nearM_px]
theorem bar_far (k : Fin 8) :
    iprop((∃ v, owns (c : Thread nD τ) (far c k) fullShare v) ∗ reached ER (cell c 3 k) 0)
      ⊢ (iprop((∃ v, owns (pz (pz c) : Thread nD τ) (near (pz c) k) fullShare v) ∗ reached ER (cell (pz (pz c)) 3 k) 0) : sProp 𝕄) := by
  rw [pz_pz, ← farM_pz, pz_pz]

theorem bars_near : (bigSep Finset.univ fun k : Fin 8 => iprop((∃ v, owns (c : Thread nD τ) (near c k) fullShare v) ∗ reached ER (cell c 1 k) 0))
    ⊢ barPay (F := F) (px c) false := bigSep_mono fun k _ => bar_near c k
theorem bars_far : (bigSep Finset.univ fun k : Fin 8 => iprop((∃ v, owns (c : Thread nD τ) (far c k) fullShare v) ∗ reached ER (cell c 3 k) 0))
    ⊢ barPay (F := F) (pz c) true := bigSep_mono fun k _ => bar_far c k

theorem regroup (A₁ A₂ A₃ A₄ A₅ A₆ : sProp 𝕄) : iprop(A₁ ∗ A₂ ∗ A₃ ∗ A₄ ∗ A₅ ∗ A₆) ⊢ iprop((A₁ ∗ A₂ ∗ A₃ ∗ A₄) ∗ A₅ ∗ A₆) := by
  iintro ⟨H1, H2, H3, H4, H5⟩
  isplitr [H5]
  · isplitl [H1]; · iexact H1
    isplitl [H2]; · iexact H2
    isplitl [H3]; · iexact H3
    iexact H4
  iexact H5

theorem chunks_ready :
    iprop((bigSep Finset.univ (opensAt (F := F) c) ∗ bigSep Finset.univ (toksAt (F := F) c))
        ∗ bigSep Finset.univ (duesAt (F := F) c) ∗ bigSep Finset.univ (roomAt (F := F) c))
      ⊢ iprop((bigSep Finset.univ (sendable (F := F) c) ∗ bigSep Finset.univ (passable (F := F) c) ∗ bigSep Finset.univ (toTake (F := F) c)
          ∗ bigSep Finset.univ (departs (F := F) c))
        ∗ barPay (F := F) (px c) false ∗ barPay (F := F) (pz c) true) := by
  rw [← bigSep_sep', ← bigSep_sep', ← bigSep_sep']
  refine (bigSep_mono fun k _ => chunk_ready c k).trans ?_
  rw [bigSep_sep', bigSep_sep', bigSep_sep', bigSep_sep', bigSep_sep']
  exact (regroup _ _ _ _ _ _).trans (sep_mono_right (BI.sep_mono (bars_near c) (bars_far c)))

/-! ## The kernel's own semaphores -/

/-- Those that hold a cell of the protocol, and those of the copies within the device. -/
abbrev osem : (Fin 8 × Fin 4) ⊕ Fin 5 → SemLoc sig
  | .inl p => .dma (fsem p.2 p.1)
  | .inr 0 => .dma (sem2 cc0_scratch9 0)
  | .inr 1 => .dma (sem2 cc0_scratch9 1)
  | .inr 2 => .dma (sem2 cc0_scratch10 0)
  | .inr 3 => .dma (sem2 cc0_scratch10 1)
  | .inr 4 => .dma cc0_scratch11.sem

theorem osem_ok : Pipeline.OwnSemFacts spec0 osem := by decide

/-- The semaphores of the copies within the device. -/
def locals : sProp 𝕄 :=
  iprop(semVal ((c : Thread nD τ), .dma (sem2 cc0_scratch9 0)) 0 ∗ semVal ((c : Thread nD τ), .dma (sem2 cc0_scratch9 1)) 0
    ∗ semVal ((c : Thread nD τ), .dma (sem2 cc0_scratch10 0)) 0 ∗ semVal ((c : Thread nD τ), .dma (sem2 cc0_scratch10 1)) 0
    ∗ semVal ((c : Thread nD τ), .dma cc0_scratch11.sem) 0)

theorem ownSems_eq : (Pipeline.ownSems0 osem c : sProp 𝕄)
    = iprop((bigSep Finset.univ fun p : Fin 8 × Fin 4 => semVal (cell c p.2 p.1) 0) ∗ locals (F := F) c) := by
  unfold Pipeline.ownSems0
  rw [BI.bigSep_univ_sum, five]
  rfl

/-! ## Before the body -/

/-- The ghost state of device `c` once its cells are open. -/
def opened : sProp 𝕄 :=
  iprop(iprop(invs (sent P) K ∗ levAts L lv ∗ cred (tallyAt (barCell c) () 2) ∗ atPos ER (barCell c) 0 ∅ 0
      ∗ (dutyTok ER (barCell (px c)) 0 false ∗ dutyTok ER (barCell (pz c)) 0 true)
      ∗ (reached ER (barCell (px c)) 0 ∗ reached ER (barCell (pz c)) 0))
    ∗ ((bigSep Finset.univ (opensAt (F := F) c) ∗ bigSep Finset.univ (toksAt (F := F) c)) ∗ bigSep Finset.univ (duesAt (F := F) c))
    ∗ locals (F := F) c)

/-- What the body takes, besides what the device owes and the gamma row. -/
def ready : sProp 𝕄 :=
  iprop(iprop(invs (sent P) K ∗ levAts L lv ∗ cred (tallyAt (barCell c) () 2) ∗ atPos ER (barCell c) 0 ∅ 0
      ∗ (dutyTok ER (barCell (px c)) 0 false ∗ dutyTok ER (barCell (pz c)) 0 true)
      ∗ (reached ER (barCell (px c)) 0 ∗ reached ER (barCell (pz c)) 0))
    ∗ ((bigSep Finset.univ (sendable (F := F) c) ∗ bigSep Finset.univ (passable (F := F) c) ∗ bigSep Finset.univ (toTake (F := F) c)
          ∗ bigSep Finset.univ (departs (F := F) c))
      ∗ barPay (F := F) (px c) false ∗ barPay (F := F) (pz c) true)
    ∗ desk P c)

theorem desk_intro : iprop((((c : Thread nD τ).loc main_v1) ↦{fullShare} P c) ∗ locals (F := F) c ∗ spare (F := F) c) ⊢ desk P c := by
  unfold desk locals spare outlet free
  iintro ⟨Hp, ⟨S0, S1, S2, S3, S4⟩, ⟨A0, A1⟩, ⟨A2, A3⟩, A4⟩
  isplitl [Hp]; · iexact Hp
  isplitl [S4 A4]
  · isplitl [A4]; · iexact A4
    iexact S4
  isplitl [S0 S1 A0 A1]
  · isplitl [S0 A0]
    · isplitl [A0]; · iexact A0
      iexact S0
    isplitl [A1]; · iexact A1
    iexact S1
  isplitl [S2 A2]
  · isplitl [A2]; · iexact A2
    iexact S2
  isplitl [A3]; · iexact A3
  iexact S3
theorem desk_elim : desk P c ⊢ iprop((((c : Thread nD τ).loc main_v1) ↦{fullShare} P c) ∗ locals (F := F) c ∗ spare (F := F) c) := by
  unfold desk locals spare outlet free
  iintro ⟨Hp, ⟨A4, S4⟩, ⟨⟨A0, S0⟩, ⟨A1, S1⟩⟩, ⟨A2, S2⟩, ⟨A3, S3⟩⟩
  isplitl [Hp]; · iexact Hp
  isplitl [S0 S1 S2 S3 S4]
  · isplitl [S0]; · iexact S0
    isplitl [S1]; · iexact S1
    isplitl [S2]; · iexact S2
    isplitl [S3]; · iexact S3
    iexact S4
  isplitl [A0 A1]
  · isplitl [A0]; · iexact A0
    iexact A1
  isplitl [A2 A3]
  · isplitl [A2]; · iexact A2
    iexact A3
  iexact A4

theorem unpack (f : main_v3.ty.Contents (Elt F)) :
    iprop(scratches (F := F) c ∗ ((((c : Thread nD τ).loc main_v1) ↦{fullShare} P c) ∗ (((c : Thread nD τ).loc main_v3) ↦{fullShare} f)) ∗ opened P K c)
      ⊢ ready P K c := by
  unfold opened ready
  iintro ⟨Hs, ⟨H1, H3⟩, Hg, ⟨Hc, Hd⟩, Hl⟩
  ihave Hr := (room c f) $$ [Hs H3]
  · isplitl [Hs] <;> iassumption
  icases Hr with ⟨Hr, Hsp⟩
  isplitl [Hg]; · iexact Hg
  isplitl [Hc Hd Hr]
  · iapply (chunks_ready (F := F) c)
    isplitl [Hc]; · iexact Hc
    isplitl [Hd]; · iexact Hd
    iexact Hr
  iapply (desk_intro P c)
  isplitl [H1]; · iexact H1
  isplitl [Hl]; · iexact Hl
  iexact Hsp

theorem ready_entry (W : Waits sig Unit) (g : cc0_stg0_0.ty.Contents (Elt F)) :
    iprop(ready P K c ∗ owes (c : Thread nD τ) (O₀ c) W ∗ gammaAt c g) ⊢ entry P K c W g := by
  unfold ready entry
  iintro ⟨⟨⟨Hi, Hl, Hc, Ha, Ht, Hr⟩, ⟨Hf, Hb⟩, Hk⟩, Ho, Hg⟩
  isplitl [Hi Hl Hc Ha Ht Hr Hb Ho]
  · isplitl [Hi]; · iexact Hi
    isplitl [Hl]; · iexact Hl
    isplitl [Ho]; · iexact Ho
    isplitl [Hc]; · iexact Hc
    isplitl [Ha]; · iexact Ha
    isplitl [Ht]; · iexact Ht
    isplitl [Hr]; · iexact Hr
    iexact Hb
  isplitl [Hf]; · iexact Hf
  isplitl [Hk]; · iexact Hk
  iexact Hg

end Cert.KernelIdeal.Run

end
-- ==== Proof.Leave.lean ====
/- From what the body leaves back to the device's whole buffers and its semaphores at zero. -/
module

public import proofs.«01_k».proof.Proof.Enter

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open Cert.KernelIdeal.Gen (k0_pay1 k0_pay9 k0_pay35)

variable {F : FTy → Type} [FloatOps F] [∀ e, Nonempty (Elt F e)]

local notation "𝕄" => MT nD τ sig Unit (Elt F) ℕ UU ℕ

variable (P : Dev nD → main_v1.ty.Contents (Elt F)) (K : GSem nD τ sig → ℕ) (c : Dev nD) (gam : FVec F S1x2048 .f32)

/-! ## The result -/

/-- The rows of the result on device `c`, chunk by chunk. -/
def parts (t : Fin 2 × Fin 8) : Vec F S128x2048 .f32 := match t.1 with | 0 => outNear P gam c t.2 | 1 => outFar P gam c t.2
/-- The result on device `c`. -/
def result : main_v3.ty.Contents (Elt F) := Rect.glue (halfR c) (half_cover c) (fun t => parts P c gam t)

/-- What a half of the receive buffer holds at the end. -/
def heard (t : Fin 2 × Fin 8) : Vec F S128x2048 .bf16 := match t.1 with | 0 => sent P (px c) t.2 | 1 => sent P (px (pz c)) t.2

/-! ## Chunk by chunk -/

/-- The rows of chunk `k`, written. -/
def wroteAt (k : Fin 8) : sProp 𝕄 :=
  iprop((owns (c : Thread nD τ) (near c k) fullShare (sent P (px c) k) ∗ owns (c : Thread nD τ) (far c k) fullShare (sent P (px (pz c)) k))
    ∗ owns (c : Thread nD τ) (rowX k) fullShare (sent P c k)
    ∗ (owns (c : Thread nD τ) (resNear c k) fullShare (outNear P gam c k) ∗ owns (c : Thread nD τ) (resFar c k) fullShare (outFar P gam c k)))
/-- Its four cells, with nothing more to come. -/
def overAt (k : Fin 8) : sProp 𝕄 := bigSep Finset.univ fun i : Fin 4 => atPos ER (cell c i k) 1 ∅ 0

theorem chunk_over (k : Fin 8) : iprop(gone P c k ∗ kept P c gam k ∗ taken P gam c k) ⊢ iprop(overAt (F := F) c k ∗ wroteAt P c gam k) := by
  unfold gone kept taken overAt wroteAt posAt
  rw [four]
  iintro ⟨⟨A0, A2, Hx, Hr⟩, ⟨A1, Hl, Hrn⟩, ⟨A3, Hf, Hrf⟩⟩
  ihave Hn := (owns_halves (c : Thread nD τ) (near c k) fullShare (sent P (px c) k)).2 $$ [Hl Hr]
  · isplitl [Hl] <;> iassumption
  isplitl [A0 A1 A2 A3]
  · isplitl [A0]; · iexact A0
    isplitl [A1]; · iexact A1
    isplitl [A2]; · iexact A2
    iexact A3
  isplitl [Hn Hf]
  · isplitl [Hn]; · iexact Hn
    iexact Hf
  isplitl [Hx]; · iexact Hx
  isplitl [Hrn]; · iexact Hrn
  iexact Hrf

theorem chunks_over : iprop(bigSep Finset.univ (gone P c) ∗ bigSep Finset.univ (kept P c gam) ∗ bigSep Finset.univ (taken P gam c))
    ⊢ iprop(bigSep Finset.univ (overAt (F := F) c) ∗ bigSep Finset.univ (wroteAt P c gam)) := by
  rw [← bigSep_sep', ← bigSep_sep', ← bigSep_sep']
  exact bigSep_mono fun k _ => chunk_over P c gam k

/-! ## Whole buffers, put together -/

theorem near_join : iprop(bigSep Finset.univ (fun k : Fin 8 => (owns (c : Thread nD τ) (near c k) fullShare (sent P (px c) k) : sProp 𝕄))
      ∗ bigSep Finset.univ (fun k : Fin 8 => owns (c : Thread nD τ) (far c k) fullShare (sent P (px (pz c)) k)))
    ⊢ iprop(∃ f : cc0_scratch1.ty.Contents (Elt F), ((c : Thread nD τ).loc cc0_scratch1) ↦{fullShare} f) :=
  (halves_join c aR (fun t => heard P c t)).trans ((Entails.of_eq (owns_whole (c : Thread nD τ) cc0_scratch1 fullShare _)).trans
    (show _ ⊢ iprop(∃ f : cc0_scratch1.ty.Contents (Elt F), ((c : Thread nD τ).loc cc0_scratch1) ↦{fullShare} f) from by iintro H; iexists _; iexact H))
theorem result_join : iprop(bigSep Finset.univ (fun k : Fin 8 => (owns (c : Thread nD τ) (resNear c k) fullShare (outNear P gam c k) : sProp 𝕄))
      ∗ bigSep Finset.univ (fun k : Fin 8 => owns (c : Thread nD τ) (resFar c k) fullShare (outFar P gam c k)))
    ⊢ (((c : Thread nD τ).loc main_v3) ↦{fullShare} result P c gam : sProp 𝕄) :=
  (halves_join c aO (fun t => parts P c gam t)).trans (Entails.of_eq (owns_whole (c : Thread nD τ) main_v3 fullShare _))
theorem slots_whole2 : iprop(someSlot (F := F) c aPin 0 ∗ someSlot (F := F) c aPin 1)
    ⊢ iprop(∃ f : cc0_scratch2.ty.Contents (Elt F), ((c : Thread nD τ).loc cc0_scratch2) ↦{fullShare} f) :=
  (slots_join c aPin).trans (show iprop(∃ X, owns (c : Thread nD τ) aPin fullShare X) ⊢ _ from by
    iintro ⟨%X, H⟩; iexists X; iapply (Entails.of_eq (owns_whole (c : Thread nD τ) cc0_scratch2 fullShare X)) $$ H)
theorem slots_whole3 : iprop(someSlot (F := F) c aMine 0 ∗ someSlot (F := F) c aMine 1)
    ⊢ iprop(∃ f : cc0_scratch3.ty.Contents (Elt F), ((c : Thread nD τ).loc cc0_scratch3) ↦{fullShare} f) :=
  (slots_join c aMine).trans (show iprop(∃ X, owns (c : Thread nD τ) aMine fullShare X) ⊢ _ from by
    iintro ⟨%X, H⟩; iexists X; iapply (Entails.of_eq (owns_whole (c : Thread nD τ) cc0_scratch3 fullShare X)) $$ H)

theorem room_back : iprop(bigSep Finset.univ (wroteAt P c gam) ∗ spare (F := F) c)
    ⊢ iprop(scratches (F := F) c ∗ (((c : Thread nD τ).loc main_v3) ↦{fullShare} result P c gam)) := by
  unfold wroteAt spare scratches someBuf
  rw [bigSep_sep', bigSep_sep', bigSep_sep', bigSep_sep']
  iintro ⟨⟨Hr, Hx, Ho⟩, H2, H3, ⟨%f4, H4⟩⟩
  isplitr [Ho]
  · isplitl [Hx]; · iapply (send_join c (sent P c)) $$ Hx
    isplitl [Hr]; · iapply (near_join P c) $$ Hr
    isplitl [H2]; · iapply (slots_whole2 (F := F) c) $$ H2
    isplitl [H3]; · iapply (slots_whole3 (F := F) c) $$ H3
    iexists f4; iexact H4
  iapply (result_join P c gam) $$ Ho

/-! ## The cells, closed -/

theorem cells_over : iprop(invs (sent P) K ∗ bigSep Finset.univ (overAt (F := F) c))
    ⊢ (|={Set.univ}=> bigSep Finset.univ fun p : Fin 8 × Fin 4 => semVal (cell c p.2 p.1) 0 : sProp 𝕄) := by
  refine BI.Entails.trans ?_ (Rounds.cells_close ER (rd (sent P)) Finset.univ (fun p : Fin 8 × Fin 4 => cell c p.2 p.1) (fun p => K (cell c p.2 p.1))
    (fun _ _ => Set.mem_univ _) (fun _ _ => id) (fun _ => 1) (fun _ _ => duties_later (sent P) _))
  unfold overAt
  rw [← bigSep_univ_prod (fun p : Fin 8 × Fin 4 => (atPos ER (cell c p.2 p.1) 1 ∅ 0 : sProp 𝕄))]
  refine bigSep_with_persistent (R := invs (sent P) K) fun p _ => ?_
  show iprop(invs (sent P) K ∗ atPos ER (cell c p.2 p.1) 1 ∅ 0) ⊢ iprop(cellInv ER (rd (sent P)) (K (cell c p.2 p.1)) (cell c p.2 p.1) ∗ atPos ER (cell c p.2 p.1) 1 ∅ 0)
  iintro ⟨#Hi, Ha⟩
  isplitr; · iapply (inv_cell (sent P) K c p.2 p.1); iexact Hi
  iexact Ha

theorem bar_over : iprop(invs (sent P) K ∗ atPos ER (barCell c) 1 ∅ 0) ⊢ (|={Set.univ}=> semVal (barCell c) 0 : sProp 𝕄) := by
  refine BI.Entails.trans ?_ (Rounds.cell_close ER (rd (sent P)) (Set.mem_univ (K (barCell c))) id (duties_later (sent P) (barCell c)))
  show iprop(invs (sent P) K ∗ atPos ER (barCell c) 1 ∅ 0) ⊢ iprop(cellInv ER (rd (sent P)) (K (barCell c)) (barCell c) ∗ atPos ER (barCell c) 1 ∅ 0)
  iintro ⟨#Hi, Ha⟩
  isplitr; · iapply (inv_bar (sent P) K c); iexact Hi
  iexact Ha

/-- After the body, besides what the device owes and the gamma row. -/
def finished : sProp 𝕄 :=
  iprop(scratches (F := F) c
    ∗ ((((c : Thread nD τ).loc main_v1) ↦{fullShare} P c) ∗ (((c : Thread nD τ).loc main_v3) ↦{fullShare} result P c gam))
    ∗ Pipeline.ownSems0 osem c ∗ semVal (barCell c) 0)

theorem exit_finished (g : cc0_stg0_0.ty.Contents (Elt F)) :
    exit P K c gam g ⊢ (|={Set.univ}=> iprop(finished P c gam ∗ (∃ W, owes (c : Thread nD τ) (0 : CellTallies nD τ sig Unit) W) ∗ gammaAt c g) : sProp 𝕄) := by
  unfold exit finished Owes
  rw [ownSems_eq, owed_done]
  iintro ⟨#Hi, Ha, Ho, Hf, Hk, Hg⟩
  ihave Hf := (chunks_over P c gam) $$ Hf
  icases Hf with ⟨Hc, Hw⟩
  ihave Hk := (desk_elim P c) $$ Hk
  icases Hk with ⟨H1, Hl, Hs⟩
  ihave Hr := (room_back P c gam) $$ [Hw Hs]
  · isplitl [Hw] <;> iassumption
  icases Hr with ⟨Hs, H3⟩
  imod (bar_over P K c) $$ [Ha] with Hb
  · isplitr; · iexact Hi
    iexact Ha
  imod (cells_over P K c) $$ [Hc] with Hc
  · isplitr; · iexact Hi
    iexact Hc
  imodintro
  isplitr [Ho Hg]
  · isplitl [Hs]; · iexact Hs
    isplitl [H1 H3]
    · isplitl [H1] <;> iassumption
    isplitl [Hc Hl]
    · isplitl [Hc] <;> iassumption
    iexact Hb
  isplitl [Ho]; · iexact Ho
  iexact Hg

/-- The whole body, from whole buffers to whole buffers. -/
theorem body_runs (W : Waits sig Unit) (g : cc0_stg0_0.ty.Contents (Elt F)) :
    iprop(ready P K c ∗ owes (c : Thread nD τ) (O₀ c) W ∗ gammaAt c g)
      ⊢ Runs c (form (Memref.whole cc0_stg0_0)) (fun _ => iprop(finished P c (k0_pay9 g) ∗ (∃ W, owes (c : Thread nD τ) (0 : CellTallies nD τ sig Unit) W) ∗ gammaAt c g)) := by
  refine (ready_entry P K c W g).trans ((body_ok P K c W g).trans ?_)
  refine BI.Entails.trans ?_ (wp_fupd _ _ _ _ _)
  exact (wp frame (wpE (defs₀ (F := F)) 𝒱₀ (c : Thread nD τ) none) Set.univ (form (Memref.whole cc0_stg0_0))).mono fun _ => exit_finished P K c (k0_pay9 g) g

end Cert.KernelIdeal.Run

end
-- ==== Proof.BodyEq.lean ====
/- The body as printed is the sequence of loops of Form.lean: both are laid out as one list of memory operations. -/
module

public import proofs.«01_k».proof.Proof.Form

@[expose] public section

noncomputable section

namespace Cert.KernelIdeal.Run

open Idealize.ShloMosaic Idealize.ShloMosaic.TcCoe Idealize.SL.Sem
open Cert.KernelIdeal Cert.KernelIdeal.Gen

variable {F : FTy → Type} [FloatOps F]

set_option maxRecDepth 65536 in
set_option maxHeartbeats 8000000 in
/-- The printed body is that sequence. -/
theorem body_eq (aG : Memref sig .tc .vmem S1x2048 .f32) (hG : aG.IsWhole) :
    cc0_body (F := F) aP (Memref.isWhole_whole _) aG hG aO (Memref.isWhole_whole _) aX (Memref.isWhole_whole _) aR (Memref.isWhole_whole _)
      aPin (Memref.isWhole_whole _) aMine (Memref.isWhole_whole _) aBuf (Memref.isWhole_whole _)
      cc0_scratch5 cc0_scratch6 cc0_scratch7 cc0_scratch8 cc0_scratch9 cc0_scratch10 cc0_scratch11 = form aG := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel,
    form, rest, meet, times, stepA, stepB, stepC, stepC', stepD, emit, fill, startOut, waitOut, pack, bind_assoc, pure_bind]
  rfl

end Cert.KernelIdeal.Run

end
-- ==== Proof.Region.lean ====
/- The kernel as a region of the program: what its buffers hold before and after, and that its body runs. -/
module

public import proofs.«01_k».proof.Proof.Leave
public import proofs.«01_k».proof.Proof.BodyEq
public import proofs.«01_k».proof.Proof.Gen.KernelIdeal.Frame
public import Idealize.ShloMosaic.Lib.Pipeline.RegionTalk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open Idealize.ShloMosaic.Pipeline (Dat BodyObligation)
open Cert.KernelIdeal.Gen (k0_pay1 k0_pay9 k0_pay35 hostOps0 t0_0 fin_N0 N_0 bigSep_W0 bodyAt0)

variable {F : FTy → Type} [FloatOps F] [∀ e, Nonempty (Elt F e)]

local notation "𝕄" => MT nD τ sig Unit (Elt F) ℕ UU ℕ

variable (m : (ℓ : Loc nD τ sig) → Buf (Elt F) ℓ)

/-! ## Contents -/

/-- At the start; after the two reshapes; after the kernel. -/
abbrev V₀ (c : Dev nD) : Valuation τ sig (Elt F) := fun b => m (c, b)
abbrev V₁ (c : Dev nD) : Valuation τ sig (Elt F) := StableHlo.after hostOps0 (V₀ m c)
/-- The partial sums of each device. -/
abbrev part (c : Dev nD) : main_v1.ty.Contents (Elt F) := V₁ m c main_v1
/-- The gamma row as fetched. -/
def row (c : Dev nD) : cc0_stg0_0.ty.Contents (Elt F) := ((cfg0.win 0).blk t0_0).view.read (Elt F) (V₁ m c main_v2)
/-- The result on device `c`. -/
abbrev res (c : Dev nD) : main_v3.ty.Contents (Elt F) := result (part m) c (k0_pay9 (row m c))
abbrev V₂ (c : Dev nD) : Valuation τ sig (Elt F) := Function.update (V₁ m c) (Proc.devRef .tc main_v3) (res m c)

theorem V₂_v3 (c : Dev nD) : V₂ m c main_v3 = res m c := Function.update_self ..
theorem V₂_of_ne (c : Dev nD) (b : DevRef τ sig) (h : b ≠ Proc.devRef .tc main_v3) : V₂ m c b = V₁ m c b := Function.update_of_ne h ..

/-! ## The region's data -/

/-- The buffers the body addresses itself; those and the arguments; every buffer of the program. -/
abbrev bodyBufs : Finset (DevRef τ sig) := {Proc.devRef .tc main_v1, Proc.devRef .tc main_v3}
abbrev otherBufs : Finset (DevRef τ sig) :=
  {Proc.devRef .tc main_arg0, Proc.devRef .tc main_arg1, Proc.devRef .tc main_v1, Proc.devRef .tc main_v3}

theorem held_body (c : Dev nD) (W : Valuation τ sig (Elt F)) : (StableHlo.held (c : Thread nD τ) bodyBufs W : sProp 𝕄)
    = iprop((((c : Thread nD τ).loc main_v1) ↦{fullShare} W main_v1) ∗ (((c : Thread nD τ).loc main_v3) ↦{fullShare} W main_v3)) := by
  unfold StableHlo.held
  rw [bigSep_eq_bigSepL_of_eq [Proc.devRef .tc main_v1, Proc.devRef .tc main_v3] (by decide) (by decide)]
  rfl

/-- Before the body. -/
def before (c : Dev nD) : sProp 𝕄 := iprop((∃ K, ready (part m) K c) ∗ ∃ r, prngReg c r)
/-- After it. -/
def after (c : Dev nD) : sProp 𝕄 := iprop(finished (part m) c (k0_pay9 (row m c)) ∗ ∃ r, prngReg c r)

/-- The gamma row is the one window; everything owed is paid by the body. -/
def dat0 (c : Dev nD) : Dat τ (Elt F) Unit ℕ UU ℕ cfg0 c where
  A w := match w with | ⟨0, _⟩ => V₁ m c main_v2
  after w _ := match w with | ⟨0, _⟩ => row m c
  Φ t := if t.val = 0 then before m c else after m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem Φ_first (c : Dev nD) : (dat0 m c).Φ t0_0.castSucc = before m c := by
  show (if t0_0.castSucc.val = 0 then before m c else after m c) = before m c; exact if_pos rfl
theorem Φ_last (c : Dev nD) : (dat0 m c).Φ t0_0.succ = after m c := by
  show (if t0_0.succ.val = 0 then before m c else after m c) = after m c; exact if_neg (Nat.succ_ne_zero _)
theorem owed_first (c : Dev nD) : (dat0 m c).owed t0_0.castSucc = O₀ c := by
  show (if t0_0.castSucc.val = 0 then O₀ c else 0) = O₀ c; exact if_pos rfl
theorem owed_last (c : Dev nD) : (dat0 m c).owed t0_0.succ = 0 := by
  show (if t0_0.succ.val = 0 then O₀ c else 0) = 0; exact if_neg (Nat.succ_ne_zero _)

theorem fetched_row (c : Dev nD) (d : (cfg0.win 0).block.Idx → Elt F (cfg0.win 0).elt) : (dat0 m c).before 0 t0_0 d = row m c := by
  unfold Dat.before; rw [if_pos (Gen.fetch0_0 t0_0)]; rfl

theorem owes_in (c : Dev nD) : ((dat0 m c).owesAt () t0_0.castSucc : sProp 𝕄) ⊢ iprop(∃ W, owes (c : Thread nD τ) (O₀ c) W) := by
  unfold Dat.owesAt Pipeline.owesWithin; rw [owed_first]
  iintro ⟨%W, -, H⟩; iexists W; iexact H
theorem owes_out (c : Dev nD) (W : Waits sig Unit) : (owes (c : Thread nD τ) (0 : CellTallies nD τ sig Unit) W : sProp 𝕄) ⊢ (dat0 m c).owesAt () t0_0.succ := by
  unfold Dat.owesAt Pipeline.owesWithin Dat.bound; rw [owed_last, show (dat0 m c).recorded t0_0.succ = Set.univ from rfl]
  iintro H; iexists W
  isplitr; · ipureintro; exact fun _ _ => Or.inl trivial
  iexact H

theorem body_at : ((defs₀ (F := F)) .tc cfg0.body (cfg0.bodyArgs t0_0 (cfg0.slots t0_0)) : Prog (TpuEff nD τ sig (Elt F) Λ₀ .tc) PUnit)
    = form (Memref.whole cc0_stg0_0) := body_eq (Memref.whole cc0_stg0_0) (Memref.isWhole_whole _)

/-- The body, from what the region gives it to what the region takes back. -/
theorem body_obligation (c : Dev nD) : BodyObligation (dat0 (F := F) m c) (defs₀ (F := F)) 𝒱₀ () Set.univ := fun t => by
  obtain rfl := fin_N0 t
  rw [bigSep_W0, bigSep_W0]
  dsimp only
  rw [Φ_first, Φ_last, body_at]
  simp only [fetched_row]
  unfold before
  iintro ⟨⟨⟨%K, Hr⟩, Hp⟩, HO, ⟨%d0, H0⟩⟩
  ihave HO := (owes_in m c) $$ HO
  icases HO with ⟨%W, HO⟩
  ihave H0 := (Entails.of_eq (owns_whole (c : Thread nD τ) cc0_stg0_0 fullShare (row m c))) $$ H0
  iapply (last (body_runs (part m) K c W (row m c))) $$ [Hr HO H0]
  · isplitl [Hr]; · iexact Hr
    isplitl [HO]; · iexact HO
    iexact H0
  iintro %u ⟨Hf, ⟨%W', HO⟩, H0⟩
  unfold after
  isplitl [Hf Hp]
  · isplitl [Hf] <;> iassumption
  isplitl [HO]; · iapply (owes_out m c W') $$ HO
  iapply (Entails.of_eq (owns_whole (c : Thread nD τ) cc0_stg0_0 fullShare (row m c)).symm) $$ H0

/-! ## Around the region -/

/-- What the launch leaves each device for the kernel: its ghost state, its cells not yet open. -/
def shut (K : GSem nD τ sig → ℕ) (c : Dev nD) : sProp 𝕄 :=
  iprop(iprop(invs (sent (part m)) K ∗ atPos ER (barCell c) 0 ∅ 0
      ∗ (dutyTok ER (barCell (px c)) 0 false ∗ dutyTok ER (barCell (pz c)) 0 true)
      ∗ (reached ER (barCell (px c)) 0 ∗ reached ER (barCell (pz c)) 0))
    ∗ (bigSep Finset.univ (fun p : Fin 8 × Fin 4 => openTok ER (cell c p.2 p.1)) ∗ bigSep Finset.univ (toksAt (F := F) c)))
def dues (c : Dev nD) : sProp 𝕄 := iprop(cred (tallyAt (barCell c) () 2) ∗ bigSep Finset.univ (duesAt (F := F) c))
def kit (c : Dev nD) : sProp 𝕄 := iprop((∃ K, shut m K c) ∗ dues (F := F) c)

theorem scopedRest_eq (c : Dev nD) : (Pipeline.scopedRest spec0 c : sProp 𝕄) = scratches c := Gen.scopedRest0_eq c

theorem cells_in (K : GSem nD τ sig → ℕ) (c : Dev nD) :
    iprop(invs (sent (part m)) K ∗ bigSep Finset.univ (fun p : Fin 8 × Fin 4 => openTok ER (cell c p.2 p.1))
        ∗ bigSep Finset.univ (fun p : Fin 8 × Fin 4 => (semVal (cell c p.2 p.1) 0 : sProp 𝕄)))
      ⊢ (|={Set.univ}=> bigSep Finset.univ (opensAt (F := F) c) : sProp 𝕄) := by
  have h1 : iprop(invs (sent (part m)) K ∗ bigSep Finset.univ (fun p : Fin 8 × Fin 4 => (openTok ER (cell c p.2 p.1) : sProp 𝕄)))
      ⊢ bigSep Finset.univ (fun p : Fin 8 × Fin 4 => iprop(cellInv ER (rd (sent (part m))) (K (cell c p.2 p.1)) (cell c p.2 p.1) ∗ openTok ER (cell c p.2 p.1))) := by
    refine bigSep_with_persistent (R := invs (sent (part m)) K) fun p _ => ?_
    show iprop(invs (sent (part m)) K ∗ openTok ER (cell c p.2 p.1))
      ⊢ iprop(cellInv ER (rd (sent (part m))) (K (cell c p.2 p.1)) (cell c p.2 p.1) ∗ openTok ER (cell c p.2 p.1))
    iintro ⟨#Hi, Ho⟩
    isplitr; · iapply (inv_cell (sent (part m)) K c p.2 p.1); iexact Hi
    iexact Ho
  have h2 := Rounds.cells_open ER (rd (sent (part m))) Finset.univ (fun p : Fin 8 × Fin 4 => cell c p.2 p.1) (fun p => K (cell c p.2 p.1))
    (Es := Set.univ) (fun _ _ => Set.mem_univ _)
  rw [bigSep_univ_prod (fun p : Fin 8 × Fin 4 => iprop(atPos ER (cell c p.2 p.1) 0 ∅ 0 ∗ reached ER (cell c p.2 p.1) 0))] at h2
  iintro ⟨Hi, Ho, Hs⟩
  iapply h2
  isplitr [Hs]
  · iapply h1
    isplitl [Hi] <;> iassumption
  iexact Hs

theorem open_region (c : Dev nD) :
    iprop(kit m c ∗ Pipeline.ownSems0 osem c ∗ levAts L lv) ⊢ (|={Set.univ}=> (∃ K, opened (part m) K c) : sProp 𝕄) := by
  unfold kit dues shut opened
  rw [ownSems_eq]
  iintro ⟨⟨⟨%K, ⟨#Hi, Ha, Ht, Hr⟩, Ho, Hk⟩, Hb, Hd⟩, ⟨Hs, Hl⟩, Hlv⟩
  imod (cells_in m K c) $$ [Ho Hs] with Hc
  · isplitr; · iexact Hi
    isplitl [Ho] <;> iassumption
  imodintro
  iexists K
  isplitl [Ha Ht Hr Hb Hlv]
  · isplitr; · iexact Hi
    isplitl [Hlv]; · iexact Hlv
    isplitl [Hb]; · iexact Hb
    isplitl [Ha]; · iexact Ha
    isplitl [Ht]; · iexact Ht
    iexact Hr
  isplitr [Hl]
  · isplitr [Hd]
    · isplitl [Hc] <;> iassumption
    iexact Hd
  iexact Hl

theorem enter_region (c : Dev nD) :
    iprop(Pipeline.scopedRest spec0 c ∗ (∃ r, prngReg c r) ∗ StableHlo.held (c.tc : Thread nD τ) bodyBufs (V₁ m c) ∗ ∃ K, opened (part m) K c)
      ⊢ (before m c : sProp 𝕄) := by
  rw [scopedRest_eq, held_body]
  unfold before
  iintro ⟨Hs, Hp, Hh, ⟨%K, Hg⟩⟩
  isplitr [Hp]
  · iexists K
    iapply (unpack (part m) K c (V₁ m c main_v3))
    isplitl [Hs]; · iexact Hs
    isplitl [Hh]; · iexact Hh
    iexact Hg
  iexact Hp

theorem leave_region (c : Dev nD) :
    (after m c : sProp 𝕄) ⊢ iprop(Pipeline.scopedRest spec0 c ∗ (∃ r, prngReg c r) ∗ StableHlo.held (c.tc : Thread nD τ) bodyBufs (V₂ m c)
      ∗ Pipeline.ownSems0 osem c ∗ semVal (barCell c) 0) := by
  rw [scopedRest_eq, held_body, V₂_v3, V₂_of_ne m c main_v1 (by decide)]
  unfold after finished
  iintro ⟨⟨Hs, Hh, Ho, Hb⟩, Hp⟩
  isplitl [Hs]; · iexact Hs
  isplitl [Hp]; · iexact Hp
  isplitl [Hh]; · iexact Hh
  isplitl [Ho]; · iexact Ho
  iexact Hb

theorem launchFacts : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

theorem stage_sem : ∀ (w : Fin 1) (s : Fin (spec0 w).nbuf), ((spec0 w).sem s).val = 0 := by decide

/-- Whatever a device owes while the region runs lies above the fetch of the gamma row. -/
theorem owed_above (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · unfold O₀ at h
    rw [Pi.add_apply, Finsupp.add_apply, Pi.add_apply, Finsupp.add_apply, tallyAt_apply, tallyAt_apply] at h
    by_cases hx : g = barCell (px c)
    · subst hx
      exact ⟨by rw [L_tc]; exact Finset.mem_singleton_self _, Nat.one_pos⟩
    by_cases hz : g = barCell (pz c)
    · subst hz
      exact ⟨by rw [L_tc]; exact Finset.mem_singleton_self _, Nat.one_pos⟩
    simp only [hx, hz, false_and, if_false, Nat.add_zero] at h
    rcases owed_pos h with ⟨k, -, rfl⟩ | ⟨k, -, rfl⟩
    · exact ⟨by rw [L_tc]; exact Finset.mem_singleton_self _, by rw [lv_x]; decide⟩
    · exact ⟨by rw [L_tc]; exact Finset.mem_singleton_self _, by rw [lv_z]; decide⟩
  · exact absurd h (Nat.lt_irrefl 0)

set_option backward.isDefEq.respectTransparency.types false in
/-- The kernel's region. -/
def region : Pipeline.RegionSeg (pcfgs (F := F)) adm (pdats m) () defs₀ 𝒱₀ L lv 0 :=
  Pipeline.RegionSeg.ofTalk (pcfgs (F := F)) adm (pdats m) () defs₀ 𝒱₀ L lv 0 osem osem_ok
    bodyBufs otherBufs (by decide) launchFacts rfl (fun c => (body_obligation m c).loose)
    (fun _ => 0) O₀ (fun c => (if_pos rfl : (if (0 : Fin (cfg0.N + 1)).val = 0 then O₀ c else 0) = O₀ c).trans (zero_add _).symm)
    (fun c => owed_last m c) (fun _ => rfl) (fun c w => by rw [Subsingleton.elim w 0]; rfl)
    (V₁ m) (V₂ m) (fun c b hb => V₂_of_ne m c b (fun e => (Finset.mem_sdiff.mp hb).2 (by rw [e]; decide)))
    (kit m) (fun c => semVal (barCell c) 0) (fun c => iprop(∃ K, opened (part m) K c)) (fun c => semVal (barCell c) 0)
    (open_region m) (enter_region m) (leave_region m) (fun c => by iintro H; imodintro; iexact H)
    (fun _ => 0)
    ⟨fun c w s => by rw [L_tc]; exact Finset.mem_singleton_self _,
      fun c w s => by
        have h := stage_sem w s
        show (if 9 ≤ ((spec0 w).sem s).val ∧ ((spec0 w).sem s).val ≤ 16 then 2 else if 25 ≤ ((spec0 w).sem s).val ∧ ((spec0 w).sem s).val ≤ 32 then 3 else 0) ≤ 0
        rw [h]; decide,
      fun c t g i h => owed_above m c t g i h⟩
    (fun _ => iprop(emp))
    (fun c w => by rw [Subsingleton.elim w 0]; rfl)
    (fun c w => by
      rw [Subsingleton.elim w 0]
      exact ((dat0 m c).arrAt_in 0 rfl _).trans (V₂_of_ne m c main_v2 (by decide)).symm)

end Cert.KernelIdeal.Run

end
-- ==== Proof.Deal.lean ====
/- What is dealt to the devices at launch: the tickets of the protocol, each to the device that will use it, and the credit. -/
module

public import proofs.«01_k».proof.Proof.Region

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open Idealize.ShloMosaic.Pipeline (Dat BodyObligation)

variable {F : FTy → Type} [FloatOps F] [∀ e, Nonempty (Elt F e)]

local notation "𝕄" => MT nD τ sig Unit (Elt F) ℕ UU ℕ

variable (m : (ℓ : Loc nD τ sig) → Buf (Elt F) ℓ)

/-! ## Tickets -/

def pxE : Dev nD ≃ Dev nD := ⟨px, px, px_px, px_px⟩
def pzE : Dev nD ≃ Dev nD := ⟨pz, pz, pz_pz, pz_pz⟩

/-- The duties of one device's cells. -/
def dutyOf (c : Dev nD) : Bool ⊕ (Fin 4 × Fin 8) → GSem nD τ sig × ℕ × Bool
  | .inl b => (barCell c, 0, b)
  | .inr p => (cell c p.1 p.2, 0, false)

theorem bar_ne_cell {c c' : Dev nD} {i : Fin 4} {k : Fin 8} : barCell c ≠ cell c' i k :=
  fun h => nomatch congrArg (fun g : GSem nD τ sig => g.2) h

theorem dutyOf_inj {c c' : Dev nD} : ∀ {x x' : Bool ⊕ (Fin 4 × Fin 8)}, dutyOf c x = dutyOf c' x' → c = c' ∧ x = x'
  | .inl b, .inl b', h => ⟨congrArg (fun t : GSem nD τ sig × ℕ × Bool => t.1.1.1) h, congrArg (fun t : GSem nD τ sig × ℕ × Bool => Sum.inl t.2.2) h⟩
  | .inl _, .inr _, h => absurd (congrArg Prod.fst h) bar_ne_cell
  | .inr _, .inl _, h => absurd (congrArg Prod.fst h).symm bar_ne_cell
  | .inr p, .inr p', h => by
    obtain ⟨h1, h2, h3⟩ := cell_inj (congrArg Prod.fst h)
    exact ⟨h1, congrArg Sum.inr (Prod.ext h2 h3)⟩

def tickets : Finset (GSem nD τ sig × ℕ × Bool) :=
  Finset.univ.map ⟨fun p : Dev nD × (Bool ⊕ (Fin 4 × Fin 8)) => dutyOf p.1 p.2, fun _ _ h => Prod.ext (dutyOf_inj h).1 (dutyOf_inj h).2⟩

/-- The tickets of family `i` of device `c`. -/
def family (c : Dev nD) (i : Fin 4) : sProp 𝕄 := bigSep Finset.univ fun k : Fin 8 => dutyTok ER (cell c i k) 0 false
/-- The two tickets of device `c`'s barrier cell. -/
def barTok (c : Dev nD) (b : Bool) : sProp 𝕄 := dutyTok ER (barCell c) 0 b

theorem bools (Φ : Bool → sProp 𝕄) : bigSep Finset.univ Φ = iprop(Φ false ∗ Φ true) :=
  bigSep_univ_eq_bigSepL [false, true] (by decide) (by decide) Φ

theorem tickets_eq : bigSep tickets (fun x => (dutyTok ER x.1 x.2.1 x.2.2 : sProp 𝕄))
    = bigSep Finset.univ fun c : Dev nD => iprop((barTok (F := F) c false ∗ barTok (F := F) c true)
      ∗ (family (F := F) c 0 ∗ family (F := F) c 1 ∗ family (F := F) c 2 ∗ family (F := F) c 3)) := by
  unfold tickets
  rw [BI.bigSep_map, bigSep_univ_prod]
  refine bigSep_congr fun c _ => ?_
  rw [BI.bigSep_univ_sum, bools, bigSep_univ_prod, four]
  rfl

theorem toksAt_eq (c : Dev nD) : bigSep Finset.univ (toksAt (F := F) c)
    = iprop((family (F := F) c 0 ∗ family (F := F) (px c) 1) ∗ (family (F := F) c 2 ∗ family (F := F) (pz c) 3)) := by
  unfold toksAt family
  rw [bigSep_sep', bigSep_sep', bigSep_sep']

/-- The tickets each device uses. -/
def hand (c : Dev nD) : sProp 𝕄 :=
  iprop((dutyTok ER (barCell (px c)) 0 false ∗ dutyTok ER (barCell (pz c)) 0 true) ∗ bigSep Finset.univ (toksAt (F := F) c))

theorem shuffle (A B C₀ C₁ C₂ C₃ : sProp 𝕄) :
    iprop((A ∗ B) ∗ (C₀ ∗ C₁ ∗ C₂ ∗ C₃)) ⊢ iprop((A ∗ B) ∗ ((C₀ ∗ C₁) ∗ (C₂ ∗ C₃))) := by
  iintro ⟨⟨HA, HB⟩, H0, H1, H2, H3⟩
  isplitl [HA HB]
  · isplitl [HA]; · iexact HA
    iexact HB
  isplitl [H0 H1]
  · isplitl [H0]; · iexact H0
    iexact H1
  isplitl [H2]; · iexact H2
  iexact H3

theorem hands : bigSep tickets (fun x => (dutyTok ER x.1 x.2.1 x.2.2 : sProp 𝕄)) ⊢ bigSep Finset.univ (hand (F := F)) := by
  have e : bigSep Finset.univ (hand (F := F)) = bigSep Finset.univ fun c : Dev nD => iprop((barTok (F := F) (px c) false ∗ barTok (F := F) (pz c) true)
      ∗ ((family (F := F) c 0 ∗ family (F := F) (px c) 1) ∗ (family (F := F) c 2 ∗ family (F := F) (pz c) 3))) :=
    bigSep_congr fun c _ => by unfold hand barTok; rw [toksAt_eq]
  rw [e, tickets_eq, bigSep_sep', bigSep_sep', bigSep_sep', bigSep_sep', bigSep_sep', bigSep_sep', bigSep_sep', bigSep_sep', bigSep_sep', bigSep_sep',
    bigSep_univ_equiv pxE (fun c : Dev nD => barTok (F := F) c false), bigSep_univ_equiv pzE (fun c : Dev nD => barTok (F := F) c true),
    bigSep_univ_equiv pxE (fun c : Dev nD => family (F := F) c 1), bigSep_univ_equiv pzE (fun c : Dev nD => family (F := F) c 3)]
  exact shuffle _ _ _ _ _ _

/-! ## Credit -/

theorem sum_family (d c : Dev nD) (i i' : Fin 4) (k : Fin 8) :
    (∑ k' ∈ From 0, tallyAt (cell d i' k') () N : CellTallies nD τ sig Unit) (cell c i k) () = if d = c ∧ i' = i then N else 0 := by
  rw [from_zero, Finset.sum_apply, Finsupp.finset_sum_apply]
  split
  · next h =>
    obtain ⟨rfl, rfl⟩ := h
    rw [Finset.sum_eq_single k]
    · rw [tallyAt_apply, if_pos ⟨rfl, rfl⟩]
    · intro k' _ hk; rw [tallyAt_apply, if_neg (fun e => hk (cell_inj e.1).2.2.symm)]
    · exact fun h => absurd (Finset.mem_univ k) h
  · next h =>
    refine Finset.sum_eq_zero fun k' _ => ?_
    rw [tallyAt_apply, if_neg (fun e => h ⟨(cell_inj e.1).1.symm, (cell_inj e.1).2.1.symm⟩)]

theorem owed_cell (d c : Dev nD) (i : Fin 4) (k : Fin 8) : O₀ d (cell c i k) ()
    = (if px d = c ∧ 1 = i then N else 0) + (if pz d = c ∧ 3 = i then N else 0) := by
  have hb (c' : Dev nD) : (tallyAt (barCell c') () 1 : CellTallies nD τ sig Unit) (cell c i k) () = 0 := by
    rw [tallyAt_apply, if_neg (fun e => bar_ne_cell e.1.symm)]
  unfold O₀ owed owedX owedZ
  rw [Pi.add_apply, Finsupp.add_apply, Pi.add_apply, Finsupp.add_apply, Pi.add_apply, Finsupp.add_apply, sum_family, sum_family,
    hb, hb]
  rfl

theorem owed_bar (d c : Dev nD) : O₀ d (barCell c) () = (if pz d = c then 1 else 0) + (if px d = c then 1 else 0) := by
  have h0 : owed d 0 0 (barCell c) () = 0 := by
    by_contra h
    rcases owed_pos (Nat.pos_of_ne_zero h) with ⟨k, -, e⟩ | ⟨k, -, e⟩ <;> exact bar_ne_cell e
  have hb (c' : Dev nD) : (tallyAt (barCell c') () 1 : CellTallies nD τ sig Unit) (barCell c) () = if c' = c then 1 else 0 := by
    rw [tallyAt_apply]
    by_cases h : c' = c
    · subst h; rw [if_pos ⟨rfl, rfl⟩, if_pos rfl]
    · rw [if_neg (fun e => h (congrArg (fun g : GSem nD τ sig => g.1.1) e.1).symm), if_neg h]
  unfold O₀
  rw [Pi.add_apply, Finsupp.add_apply, Pi.add_apply, Finsupp.add_apply, h0, hb, hb, Nat.zero_add]

theorem sum_peer (e : Dev nD ≃ Dev nD) (c : Dev nD) (n : ℕ) : (∑ d : Dev nD, if e d = c then n else 0) = n := by
  rw [Finset.sum_eq_single (e.symm c)]
  · rw [if_pos (e.apply_symm_apply c)]
  · intro d _ hd; rw [if_neg (fun h => hd (by rw [← h, e.symm_apply_apply]))]
  · exact fun h => absurd (Finset.mem_univ _) h

theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib]
  exact congrArg₂ (· + ·) (sum_peer pzE c 1) (sum_peer pxE c 1)

theorem launch_cell (c : Dev nD) (i : Fin 4) (k : Fin 8) (hi : i = 1 ∨ i = 3) :
    tallyOn (cell c i k) (launchCredit (Pipeline.owing O₀) 0 (cell c i k)) = (tallyAt (cell c i k) () N : CellTallies nD τ sig Unit) := by
  unfold tallyAt
  refine congrArg _ (Finsupp.ext fun u => ?_)
  cases u
  rw [Pipeline.launchCredit_owing, Finsupp.single_eq_same, Finset.sum_congr rfl fun d _ => owed_cell d c i k]
  rcases hi with rfl | rfl
  · refine (Finset.sum_congr rfl fun d _ => ?_).trans (sum_peer pxE c N)
    rw [if_neg (fun h : pz d = c ∧ (3 : Fin 4) = 1 => absurd h.2 (by decide)), Nat.add_zero]
    exact if_congr (and_iff_left rfl) rfl rfl
  · refine (Finset.sum_congr rfl fun d _ => ?_).trans (sum_peer pzE c N)
    rw [if_neg (fun h : px d = c ∧ (1 : Fin 4) = 3 => absurd h.2 (by decide)), Nat.zero_add]
    exact if_congr (and_iff_left rfl) rfl rfl

/-- The families in which chunks arrive. -/
abbrev into : Fin 2 → Fin 4 | 0 => 1 | 1 => 3
theorem into_cases (j : Fin 2) : into j = 1 ∨ into j = 3 := by revert j; decide
theorem into_inj : Function.Injective into := by decide
def arrivals : Fin 8 × Fin 2 ↪ SemLoc sig :=
  ⟨fun p => .dma (fsem (into p.2) p.1), fun p p' h => by
    obtain ⟨h1, h2⟩ := fsem_inj (SemLoc.dma.inj h)
    exact Prod.ext h2 (into_inj h1)⟩

theorem pair (Φ : Fin 2 → sProp 𝕄) : bigSep Finset.univ Φ = iprop(Φ 0 ∗ Φ 1) :=
  bigSep_univ_eq_bigSepL [(0 : Fin 2), 1] (by decide) (by decide) Φ

theorem creds (c : Dev nD) : (Pipeline.launchCred O₀ c : sProp 𝕄) ⊢ dues (F := F) c := by
  unfold Pipeline.launchCred dues
  rw [bigSep_univ_at _ (SemLoc.reg barS), launch_bar]
  refine sep_mono_right ?_
  refine (bigSep_subset (s := Finset.univ.erase (SemLoc.reg barS)) (t := Finset.univ.map arrivals) (fun g hg => ?_)).trans ?_
  · obtain ⟨p, -, rfl⟩ := Finset.mem_map.mp hg
    exact Finset.mem_erase.mpr ⟨fun h => (nomatch h), Finset.mem_univ _⟩
  rw [BI.bigSep_map, bigSep_univ_prod]
  refine bigSep_mono fun k _ => ?_
  rw [pair]
  show iprop(cred (tallyOn (cell c 1 k) (launchCredit (Pipeline.owing O₀) 0 (cell c 1 k)))
    ∗ cred (tallyOn (cell c 3 k) (launchCredit (Pipeline.owing O₀) 0 (cell c 3 k)))) ⊢ duesAt (F := F) c k
  rw [launch_cell c 1 k (.inl rfl), launch_cell c 3 k (.inr rfl)]
  unfold duesAt due
  exact BI.Entails.refl _

/-! ## The records -/

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact bar_ne_cell h.symm

/-- What every device may consult. -/
def records (κ : GSem nD τ sig → ℕ) : sProp 𝕄 := iprop(invs (sent (part m)) κ ∗ bigSep barCells fun g => reached ER g 0)
instance records_persistent (κ : GSem nD τ sig → ℕ) : BI.Persistent (records m κ) := by unfold records; infer_instance

theorem reached_bar (c : Dev nD) : (bigSep barCells fun g => (reached ER g 0 : sProp 𝕄)) ⊢ reached ER (barCell c) 0 :=
  bigSep_elim (Finset.mem_map_of_mem barEmb (Finset.mem_univ c))

/-- What one device alone holds. -/
def holding (c : Dev nD) : sProp 𝕄 :=
  iprop(atPos ER (barCell c) 0 ∅ 0 ∗ bigSep Finset.univ (fun p : Fin 8 × Fin 4 => openTok ER (cell c p.2 p.1)) ∗ hand (F := F) c)

theorem shut_intro (κ : GSem nD τ sig → ℕ) (c : Dev nD) : iprop(records m κ ∗ holding (F := F) c) ⊢ iprop(∃ K, shut m K c) := by
  unfold records holding hand shut
  iintro ⟨⟨#HI, #HR⟩, Ha, Ho, Hb, Ht⟩
  iexists κ
  isplitl [Ha Hb]
  · isplitr; · iexact HI
    isplitl [Ha]; · iexact Ha
    isplitl [Hb]; · iexact Hb
    isplitr; · iapply (reached_bar (F := F) (px c)); iexact HR
    iapply (reached_bar (F := F) (pz c)); iexact HR
  isplitl [Ho]; · iexact Ho
  iexact Ht

end Cert.KernelIdeal.Run
-- ==== Proof.Launch.lean ====
/- The run: from any memory with zero counters every device ends with its arguments as they were and the result in place. -/
module

public import proofs.«01_k».proof.Proof.Deal

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open Idealize.ShloMosaic.Pipeline (Dat BodyObligation)
open Cert.KernelIdeal.Gen (k0_pay1 k0_pay9 k0_pay35 hostOps0 t0_0 fin_N0 N_0 bigSep_W0 bodyAt0)

variable {F : FTy → Type} [FloatOps F] [∀ e, Nonempty (Elt F e)]

local notation "𝕄" => MT nD τ sig Unit (Elt F) ℕ UU ℕ

variable (m : (ℓ : Loc nD τ sig) → Buf (Elt F) ℓ)

variable (ρ : Dev nD → PrngReg)

/-! ## Buffers and counters -/

/-- Every buffer that outlives the kernel. -/
abbrev allBufs : Finset (DevRef τ sig) :=
  {Proc.devRef .tc main_arg0, Proc.devRef .tc main_arg1, Proc.devRef .tc main_v1, Proc.devRef .tc main_v2, Proc.devRef .tc main_v3}

theorem unscoped_held (c : Dev nD) (W : Valuation τ sig (Elt F)) :
    (unscopedBufs c (fun b => W b) : sProp 𝕄) = StableHlo.held (c : Thread nD τ) allBufs W := by
  unfold unscopedBufs StableHlo.held
  rw [bigSep_eq_bigSepL_of_eq [main_arg0, main_arg1, main_v1, main_v2, main_v3] (by decide) (by decide),
    bigSep_eq_bigSepL_of_eq [Proc.devRef .tc main_arg0, Proc.devRef .tc main_arg1, Proc.devRef .tc main_v1, Proc.devRef .tc main_v2, Proc.devRef .tc main_v3]
      (by decide) (by decide)]
  rfl

theorem held_all (c : Dev nD) (W : Valuation τ sig (Elt F)) : (StableHlo.held (c : Thread nD τ) allBufs W : sProp 𝕄)
    = iprop((((c : Thread nD τ).loc main_arg0) ↦{fullShare} W main_arg0) ∗ (((c : Thread nD τ).loc main_arg1) ↦{fullShare} W main_arg1)
      ∗ (((c : Thread nD τ).loc main_v1) ↦{fullShare} W main_v1) ∗ (((c : Thread nD τ).loc main_v2) ↦{fullShare} W main_v2)
      ∗ (((c : Thread nD τ).loc main_v3) ↦{fullShare} W main_v3)) := by
  unfold StableHlo.held
  rw [bigSep_eq_bigSepL_of_eq [Proc.devRef .tc main_arg0, Proc.devRef .tc main_arg1, Proc.devRef .tc main_v1, Proc.devRef .tc main_v2, Proc.devRef .tc main_v3]
      (by decide) (by decide)]
  rfl

theorem held_windows (c : Dev nD) (W : Valuation τ sig (Elt F)) : (StableHlo.held (c : Thread nD τ) allBufs W : sProp 𝕄)
    = iprop(StableHlo.held (c : Thread nD τ) (Pipeline.arrRefs (τ := τ) spec0) W ∗ StableHlo.held (c : Thread nD τ) otherBufs W) := by
  have e : (allBufs \ Pipeline.arrRefs (τ := τ) spec0 : Finset (DevRef τ sig)) = otherBufs := by decide
  rw [StableHlo.held_sub_split (c : Thread nD τ) (show Pipeline.arrRefs (τ := τ) spec0 ⊆ allBufs by decide), e]

theorem unscopedSems_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_bar : ∀ sm : SemLoc sig, sm.isScoped .tc = false → sm = .reg barS := by decide

/-! ## The program's two segments -/

/-- What goes along with the buffers while the arguments are reshaped. -/
def along (c : Dev nD) : sProp 𝕄 :=
  iprop(kit m c ∗ (∃ r, prngReg c r) ∗ ∃ W, owes (c : Thread nD τ) (O₀ c) W)

theorem ops_in : ∀ op ∈ (hostOps0 : List (HloOp τ sig (Elt F))), op.bufs ⊆ allBufs := by
  intro op h
  rcases List.mem_cons.mp h with rfl | h
  · show ({Proc.devRef .tc main_arg0, Proc.devRef .tc main_v1} : Finset (DevRef τ sig)) ⊆ allBufs; decide
  · rw [List.mem_singleton] at h; subst h
    show ({Proc.devRef .tc main_arg1, Proc.devRef .tc main_v2} : Finset (DevRef τ sig)) ⊆ allBufs; decide

def reshapes : Pipeline.HostSeg (Ix := Unit) (Name := ℕ) (U := UU) (Lvl := ℕ) (pcfgs (F := F)) defs₀ 𝒱₀ L lv :=
  Pipeline.HostSeg.ofOps _ _ _ _ _ allBufs hostOps0 ops_in (List.forall_iff_forall_mem.mp Gen.hostOps0_fresh) (V₀ m) (along m)

theorem region_pre (c : Dev nD) : iprop(StableHlo.held (c : Thread nD τ) allBufs (V₁ m c) ∗ along m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) otherBufs (V₁ m c) ∗ emp) ∗ kit m c ∗ ∃ Wd, owes (c : Thread nD τ) (0 + O₀ c) Wd)
  rw [held_windows, zero_add]
  unfold along
  iintro ⟨⟨Hw, Ho⟩, Hk, Hp, HO⟩
  isplitl [Hw]; · iexact Hw
  isplitl [Hp]; · iexact Hp
  isplitl [Ho]
  · isplitl [Ho]; · iexact Ho
    iempintro
  isplitl [Hk]; · iexact Hk
  iexact HO

abbrev start (c : Dev nD) : sProp 𝕄 := iprop(StableHlo.held (c : Thread nD τ) allBufs (V₀ m c) ∗ along m c)
abbrev stop (c : Dev nD) : sProp 𝕄 := iprop(StableHlo.held (c : Thread nD τ) allBufs (V₂ m c) ∗ semVal (barCell c) 0)

theorem region_post (c : Dev nD) : (region m).post c
    ⊢ iprop(stop m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) otherBufs (V₂ m c) ∗ emp) ∗ semVal (barCell c) 0
    ∗ ∃ Wd, owes (c : Thread nD τ) (0 : CellTallies nD τ sig Unit) Wd) ⊢ _
  unfold stop
  rw [held_windows]
  iintro ⟨Hw, -, ⟨Ho, -⟩, Hb, HO⟩
  isplitr [HO]
  · isplitl [Hw Ho]
    · isplitl [Hw]; · iexact Hw
      iexact Ho
    iexact Hb
  iexact HO

def segs : List (Pipeline.Seg (pcfgs (F := F)) adm (pdats m) () defs₀ 𝒱₀ L lv) := [.host (reshapes m), .region (region m)]

/-! ## Ghost state -/

abbrev protocol : URounds (GSem nD τ sig) Bool := launchOf barCells scCells tickets
def seed : UU :=
  (initOf (Pipeline.cells (Pipeline.pin (pcfgs (F := F)) adm) Gen.cellOf_inj) (Pipeline.launchToks (Pipeline.pin (pcfgs (F := F)) adm) Gen.cellOf_inj),
    (protocol, 1))

/-- The protocol's state stays on one device until it is dealt. -/
def keep (c : Dev nD) : sProp 𝕄 := if c = 0 then BI.own (ER protocol) else iprop(emp)
theorem keep_all : bigSep Finset.univ (keep (F := F)) = BI.own (ER protocol) := by
  rw [bigSep_univ_at _ (0 : Dev nD), bigSep_congr (s := Finset.univ.erase (0 : Dev nD)) (Ψ := fun _ => (BI.emp : sProp 𝕄))
      fun c hc => by unfold keep; rw [if_neg (Finset.ne_of_mem_erase hc)]; rfl, BI.bigSep_emp_const]
  unfold keep; rw [if_pos rfl]
  exact BI.equiv_iff.mp sep_emp

/-- What a device brings that is not the protocol's. -/
def luggage (c : Dev nD) : sProp 𝕄 :=
  iprop(StableHlo.held (c : Thread nD τ) allBufs (V₀ m c) ∗ dues (F := F) c ∗ owes (c : Thread nD τ) (O₀ c) ∅ ∗ ∃ r, prngReg c r)

theorem start_intro (κ : GSem nD τ sig → ℕ) (c : Dev nD) : iprop(records m κ ∗ (holding (F := F) c ∗ luggage m c)) ⊢ start m c := by
  unfold luggage start along kit
  iintro ⟨#HR, Hl, Hh, Hd, HO, Hp⟩
  isplitl [Hh]; · iexact Hh
  isplitl [Hl Hd]
  · isplitl [Hl]
    · iapply (shut_intro m κ c)
      isplitr; · iexact HR
      iexact Hl
    iexact Hd
  isplitl [Hp]; · iexact Hp
  iexists ∅; iexact HO

theorem open_list : bigSep scCells (fun g => (openTok ER g : sProp 𝕄))
    ⊢ bigSep Finset.univ (fun c : Dev nD => bigSep Finset.univ fun p : Fin 8 × Fin 4 => openTok ER (cell c p.2 p.1)) := by
  rw [BI.bigSep_map, bigSep_univ_prod]
  exact BI.Entails.refl _

theorem unpacked (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ keep (F := F) c)
    ⊢ (iprop(luggage m c ∗ (semVal (barCell c) 0 ∗ keep (F := F) c)) : sProp 𝕄) := by
  rw [show unscopedBufs c (fun b => m ((c : Thread nD τ).loc b)) = StableHlo.held (c : Thread nD τ) allBufs (V₀ m c) from unscoped_held c (V₀ m c),
    unscopedSems_bar]
  unfold luggage
  iintro ⟨Hh, Hs, HO, Hc, Hp, HG⟩
  ihave Hd := (creds (F := F) c) $$ Hc
  isplitl [Hh Hd HO Hp]
  · isplitl [Hh]; · iexact Hh
    isplitl [Hd]; · iexact Hd
    isplitl [HO]; · iexact HO
    iexists (ρ c); iexact Hp
  isplitl [Hs]; · iexact Hs
  iexact HG

theorem joined {Φ Ψ : Dev nD → sProp 𝕄} :
    iprop(bigSep Finset.univ Φ ∗ bigSep Finset.univ Ψ) ⊢ bigSep Finset.univ (fun c => iprop(Φ c ∗ Ψ c)) := Entails.of_eq (bigSep_sep' _ _ _).symm
theorem apart {Φ Ψ : Dev nD → sProp 𝕄} :
    bigSep Finset.univ (fun c => iprop(Φ c ∗ Ψ c)) ⊢ iprop(bigSep Finset.univ Φ ∗ bigSep Finset.univ Ψ) := Entails.of_eq (bigSep_sep' _ _ _)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ keep (F := F) c)) ∗ levAts L lv)
      ⊢ (|={Set.univ}=> bigSep Finset.univ (start m) : sProp 𝕄) := by
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have ha : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hm : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ keep (F := F) c))
      ⊢ (bigSep Finset.univ fun c : Dev nD => iprop(luggage m c ∗ (semVal (barCell c) 0 ∗ keep (F := F) c)) : sProp 𝕄) :=
    bigSep_mono fun c _ => unpacked m ρ c
  iintro ⟨H, -⟩
  ihave H := hm $$ H
  ihave H := apart $$ H
  icases H with ⟨HB, H⟩
  ihave H := apart $$ H
  icases H with ⟨Hv, HG⟩
  ihave Hu := (Entails.of_eq (keep_all (F := F))) $$ HG
  imod (Rounds.fund_launch ER (rd (sent (part m))) disjoint_cells (fun g _ h => h) tickets) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(holding (F := F) c ∗ luggage m c)) fun c _ => start_intro m κ c)
  isplitr
  · unfold records invs
    isplitr; · iexact Hinv
    iexact Hr
  iapply joined
  isplitr [HB]
  · unfold holding
    iapply joined; isplitl [Hat]; · iapply ha $$ Hat
    iapply joined; isplitl [Hopen]; · iapply (open_list (F := F)) $$ Hopen
    iapply (hands (F := F)) $$ Htok
  · iexact HB

/-! ## The run -/

theorem V₂_arg0 (c : Dev nD) : V₂ m c main_arg0 = m ((c : Thread nD τ).loc main_arg0) :=
  (V₂_of_ne m c main_arg0 (by decide)).trans (Gen.V_main_arg0 m c)
theorem V₂_arg1 (c : Dev nD) : V₂ m c main_arg1 = m ((c : Thread nD τ).loc main_arg1) :=
  (V₂_of_ne m c main_arg1 (by decide)).trans (Gen.V_main_arg1 m c)

set_option backward.isDefEq.respectTransparency.types false in
theorem run_main : θ_run defs (onTc (τ := τ) (main (F := F))) (s₀ m ρ)
    (fun r => (∀ c : Dev nD, r.2.mem ((c : Thread nD τ).loc main_v3) = res m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () Gen.cellOf_inj EP defs₀ 𝒱₀ L lv m ρ main (segs m)
    (fun c Q => by rw [Gen.main_segs adm (pdats m) () 𝒱₀ L lv (reshapes m) (region m) rfl c]; exact BI.Entails.refl _)
    (by simp only [segs, Pipeline.Seg.pipes_host, Pipeline.Seg.pipes_region, Pipeline.Seg.pipes_nil]; decide)
    (O₀ := O₀) (hL := L_of_ne) (G := keep) (u₀ := seed)
    (hu₀ := by
      unfold seed
      iintro Hu
      ihave H := (ownU_pair _ _) $$ Hu
      icases H with ⟨HP, HX⟩
      ihave H := (own_pair_emb _ _ _) $$ HX
      icases H with ⟨HR, -⟩
      imodintro
      isplitl [HP]; · iexact HP
      rw [keep_all]; iexact HR)
    (T₀ := start m) (Tₙ := stop m)
    (hch := ⟨fun c => .rfl, fun c => region_pre m c, fun c => region_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_v3) = V₂ m c main_v3) ∧ s.sem (barCell c) = 0)
    (hfin := fun c s' => by
      dsimp only [stop]; rw [held_all]
      iintro ⟨⟨⟨H0, H1, -, -, H3⟩, Hb⟩, HSI⟩
      icombine HSI H0 gives %h0
      icombine HSI H1 gives %h1
      icombine HSI H3 gives %h3
      icombine HSI Hb gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => by
        obtain ⟨⟨h0, h1, h3⟩, -⟩ := h c
        rw [V₂_arg0] at h0; rw [V₂_arg1] at h1; rw [V₂_v3] at h3
        exact ⟨h3, h0, h1⟩,
      sem_eq_zero hs fun c sm hsm => by
        obtain rfl := unscoped_bar sm hsm
        exact (h c).2⟩)

end Cert.KernelIdeal.Run
-- ==== Proof.Frames.lean ====
/- The three frames: every execution terminates, with the arguments as they were and every counter at zero. -/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

instance : Cert.Kernel.Facts := Cert.Kernel.Gen.facts

/-! The two printed programs are one program, as no operation was rewritten; only their tables have to be compared label by label. -/

theorem kernels_same {F : FTy → Type} [FloatOps F] : Cert.Kernel.defs₀ (F := F) = Cert.KernelIdeal.defs₀ := by
  unfold Cert.Kernel.defs₀ Cert.KernelIdeal.defs₀
  congr 1
  funext l x
  match l, x with
  | 0, (t, s) => rfl
theorem defs_same {F : FTy → Type} [FloatOps F] : Cert.Kernel.defs (F := F) = Cert.KernelIdeal.defs := by
  unfold Cert.Kernel.defs Cert.KernelIdeal.defs
  rw [kernels_same]
  rfl

theorem frame_ideal : Cert.quiescent_KernelIdeal := fun m ρ _ =>
  (θ_run Cert.KernelIdeal.defs _ _).mono (fun _ h => ⟨fun c => (h.1 c).2, h.2⟩) (Cert.KernelIdeal.Run.run_main (F := Ideal) m ρ)

theorem frame_kernel : Cert.quiescent_Kernel := by
  intro m ρ _
  rw [defs_same]
  exact (θ_run Cert.KernelIdeal.defs _ _).mono (fun _ h => ⟨fun c => (h.1 c).2, h.2⟩) (Cert.KernelIdeal.Run.run_main (F := Bits) m ρ)

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Norm.lean ====
/- The normalised row, and what makes the two ways of writing it equal: the kernel multiplies by the reciprocal of a square root,
   the reference divides by the square root. -/
module

public import Idealize.ShloMosaic.Lib.Pointwise

@[expose] public section

noncomputable section

namespace Cert.Norm

open Idealize.ShloMosaic

/-- The mean of the squares of a row, plus the small constant. -/
def var (y : Fin 2048 → EReal) : EReal := Ideal.div (∑ l, y l * y l) (Ideal.ofBits .f32 0x45000000#32) + Ideal.ofBits .f32 0x358637BD#32

/-- Entry `j` of the row `y` normalised and scaled by `g`. -/
def normed (y : Fin 2048 → EReal) (g : EReal) (j : Fin 2048) : EReal := y j * Ideal.rsqrt (var y) * g

theorem count_eq : Ideal.ofBits .f32 0x45000000#32 = ((2048 : ℝ) : EReal) := by
  simp [Ideal.ofBits, Ideal.ieee, -EReal.coe_mul]; norm_num
theorem small_pos : (0 : EReal) < Ideal.ofBits .f32 0x358637BD#32 := by
  simp [Ideal.ofBits, Ideal.ieee, -EReal.coe_mul]

theorem var_pos (y : Fin 2048 → EReal) : 0 < var y := by
  have hs : 0 ≤ ∑ l, y l * y l := Finset.sum_nonneg fun l _ => by
    induction y l with
    | bot => simp
    | top => simp
    | coe r => exact_mod_cast mul_self_nonneg r
  have hd : 0 ≤ Ideal.div (∑ l, y l * y l) (Ideal.ofBits .f32 0x45000000#32) := by
    rw [count_eq, Ideal.div, if_neg (by norm_num), ← EReal.coe_inv]
    exact mul_nonneg hs (by norm_num)
  calc (0 : EReal) < Ideal.ofBits .f32 0x358637BD#32 := small_pos
    _ = 0 + Ideal.ofBits .f32 0x358637BD#32 := (zero_add _).symm
    _ ≤ _ := add_le_add_left hd _

/-- Division by the square root of something positive, infinity included. -/
theorem div_sqrt (y v : EReal) (h : 0 < v) : Ideal.div y (Ideal.sqrt v) = y * Ideal.rsqrt v := by
  induction v with
  | bot => simp at h
  | top =>
    rw [Ideal.rsqrt_top, show Ideal.sqrt ⊤ = ⊤ from rfl, Ideal.div, if_neg (by simp), EReal.inv_top]
  | coe r =>
    have h : 0 < r := by exact_mod_cast h
    have hs : Real.sqrt r ≠ 0 := (Real.sqrt_pos.mpr h).ne'
    rw [Ideal.sqrt_coe, Ideal.rsqrt_coe]
    simp only [not_lt.mpr h.le, h.ne', if_false]
    rw [Ideal.div, if_neg (by exact_mod_cast hs), EReal.coe_inv]

/-- The reference's way of writing an entry. -/
theorem normed_div (y : Fin 2048 → EReal) (g : EReal) (j : Fin 2048) : Ideal.div (y j) (Ideal.sqrt (var y)) * g = normed y g j := by
  rw [div_sqrt _ _ (var_pos y), normed]

end Cert.Norm

end
-- ==== Proof.Entries.lean ====
/- The kernel's result and the reference's, entry by entry, over the extended reals. -/
module

public import proofs.«01_k».proof.Proof.Launch
public import proofs.«01_k».proof.Proof.Norm
public import Idealize.ShloMosaic.Lib.ValueLayout
public import proofs.«01_k».proof.Proof.Gen.ReferenceIdeal.Run

@[expose] public section

noncomputable section

namespace Cert.KernelIdeal.Run

open Idealize.ShloMosaic Idealize.ShloMosaic.TcCoe
open Cert.KernelIdeal Facts₀ Facts
open Cert.KernelIdeal.Gen (k0_pay1 k0_pay9 k0_pay35)
open Cert.Norm

/-! ## The operations of the body -/

set_option maxRecDepth 16384 in
theorem finish_at (g : Vec Ideal S1x2048 .f32) (X : Vec Ideal S1x128x2048 .f32) (Y : Vec Ideal S128x2048 .bf16) (i : Fin 128) (j : Fin 2048) :
    k0_pay35 (k0_pay9 g) X Y (ix2 i j) = normed (fun l => X (ix3 0 i l) + Y (ix2 i l)) (g (ix2 0 j)) j := by
  unfold normed var
  pointwise [k0_pay35, k0_pay9]
set_option maxRecDepth 16384 in
theorem pack_at (X : Vec Ideal S1x128x2048 .f32) (i : Fin 128) (j : Fin 2048) : k0_pay1 X (ix2 i j) = X (ix3 0 i j) := by
  pointwise [k0_pay1]
set_option maxRecDepth 16384 in
theorem up_at (X : Vec Ideal S128x2048 .f32) (i : Fin 128) (j : Fin 2048) : up X (ix3 0 i j) = X (ix2 i j) := by
  unfold up
  refine congrArg X ?_
  rw [Equiv.symm_apply_eq]
  pointwise

/-! ## The rows copied -/

theorem rows_at (P : main_v1.ty.Contents (Elt Ideal)) (o : Fin 2 → ℕ) (h : ∀ a, o a + S128x2048.size a ≤ S4096x2048.size a)
    (n : ℕ) (ho : o = ![n, 0]) (i : Fin 128) (j : Fin 2048) (r : Fin 4096) (hr : r.val = n + i.val) : rows P o h (ix2 i j) = P (ix2 r j) := by
  subst ho
  show P ((Rect.unit (s := S4096x2048) ![n, 0] S128x2048.size h).emb (ix2 i j)) = _
  refine congrArg P (funext fun a => Fin.ext ?_)
  fin_cases a
  · simp [hr]
  · simp

theorem pin_off (d : Dev nD) (k : Fin 8) : k0_off1 d (ofs k.val) = ![2048 * (1 - d.val / 8) + 128 * (8 * (d.val % 4 % 2) + k.val), 0] := by
  revert d k; decide +kernel
theorem mine_off (d : Dev nD) (t : Fin 2 × Fin 8) : mineOff d ⟨8 * t.1.val + t.2.val, by omega⟩ = ![2048 * (d.val / 8) + 128 * (chunkNo d t).val, 0] := by
  revert d t; decide +kernel
/-- The device whose rows a half is made of, beside the device's own: across x, or across x and z. -/
def peer (c : Dev nD) (b : Fin 2) : Dev nD := match b with | 0 => px c | 1 => px (pz c)
theorem peer_x (c : Dev nD) (b : Fin 2) : (peer c b).val / 8 = 1 - c.val / 8 := by revert c b; decide
theorem peer_off (c : Dev nD) (t : Fin 2 × Fin 8) :
    2048 * (1 - (peer c t.1).val / 8) + 128 * (8 * ((peer c t.1).val % 4 % 2) + t.2.val) = 2048 * (c.val / 8) + 128 * (chunkNo c t).val := by
  revert c t; decide +kernel

/-- Row `i` of chunk `t` of device `c`, among all 4096. -/
def rowNo (c : Dev nD) (t : Fin 2 × Fin 8) (i : Fin 128) : Fin 4096 :=
  ⟨2048 * (c.val / 8) + 128 * (chunkNo c t).val + i.val, by have := c.isLt; have := (chunkNo c t).isLt; have : nD = 16 := rfl; omega⟩

theorem sent_at (P : Dev nD → main_v1.ty.Contents (Elt Ideal)) (c : Dev nD) (t : Fin 2 × Fin 8) (i : Fin 128) (l : Fin 2048) :
    sent P (peer c t.1) t.2 (ix2 i l) = P (peer c t.1) (ix2 (rowNo c t i) l) := by
  unfold sent
  rw [pack_at, up_at]
  exact rows_at _ _ _ _ (pin_off _ _) i l _ (by rw [peer_off]; rfl)
theorem mine_at (P : Dev nD → main_v1.ty.Contents (Elt Ideal)) (c : Dev nD) (t : Fin 2 × Fin 8) (n : Fin 16) (hn : n.val = 8 * t.1.val + t.2.val)
    (i : Fin 128) (l : Fin 2048) : up (mineRows P c n) (ix3 0 i l) = P c (ix2 (rowNo c t i) l) := by
  have e : n = ⟨8 * t.1.val + t.2.val, by clear hn; omega⟩ := Fin.ext hn
  rw [e, up_at]
  exact rows_at _ _ _ _ (mine_off c t) i l _ rfl

/-- The two rows added. -/
def both (P : Dev nD → main_v1.ty.Contents (Elt Ideal)) (c : Dev nD) (t : Fin 2 × Fin 8) (i : Fin 128) (l : Fin 2048) : EReal :=
  (show EReal from P c (ix2 (rowNo c t i) l)) + (show EReal from P (peer c t.1) (ix2 (rowNo c t i) l))

/-- An entry of a chunk finished from the device's own rows `n` and the ones received. -/
theorem chunk_at (P : Dev nD → main_v1.ty.Contents (Elt Ideal)) (c : Dev nD) (g : Vec Ideal S1x2048 .f32) (t : Fin 2 × Fin 8)
    (n : Fin 16) (hn : n.val = 8 * t.1.val + t.2.val) (i : Fin 128) (j : Fin 2048) :
    k0_pay35 (k0_pay9 g) (up (mineRows P c n)) (sent P (peer c t.1) t.2) (ix2 i j) = normed (both P c t i) (g (ix2 0 j)) j := by
  rw [finish_at]
  refine congrArg (fun y => normed y (g (ix2 0 j)) j) (funext fun l => ?_)
  rw [mine_at P c t n hn, sent_at]
  rfl
/-- An entry of the result. -/
theorem parts_at (P : Dev nD → main_v1.ty.Contents (Elt Ideal)) (c : Dev nD) (g : Vec Ideal S1x2048 .f32) (t : Fin 2 × Fin 8) (i : Fin 128) (j : Fin 2048) :
    parts P c (k0_pay9 g) t (ix2 i j) = normed (both P c t i) (g (ix2 0 j)) j := by
  obtain ⟨b, k⟩ := t
  match b with
  | 0 => exact chunk_at P c g (0, k) ⟨k.val, by omega⟩ (by simp) i j
  | 1 => exact chunk_at P c g (1, k) ⟨k.val + 8, by omega⟩ (by simp; omega) i j

/-! ## The arguments -/

section
variable (m : (ℓ : Loc nD τ sig) → Buf (Elt Ideal) ℓ) (c : Dev nD)

set_option maxRecDepth 16384 in
theorem part_at (n : Fin 4096) (l : Fin 2048) : part m c (ix2 n l) = m ((c : Thread nD τ).loc main_arg0) (ix3 0 n l) := by
  have h : part m c = shapeCast S4096x2048 (m ((c : Thread nD τ).loc main_arg0)) shapeCasts_S1x4096x2048_S4096x2048 := by
    unfold part V₁
    after_results
    rfl
  rw [h]
  exact ValueIdx.shapeCast_1ab_ab_apply _ _ n l
set_option maxRecDepth 16384 in
theorem row_at (l : Fin 2048) : row m c (ix2 0 l) = m ((c : Thread nD τ).loc main_arg1) (ix1 l) := by
  have h : V₁ m c main_v2 = shapeCast S1x2048 (m ((c : Thread nD τ).loc main_arg1)) shapeCasts_S2048_S1x2048 := by
    unfold V₁
    after_results
    rfl
  have hz : (fun a => (win0_0.index Gen.t0_0) a * main_v2.ty.shape.size a) = fun _ => 0 := funext fun a => by fin_cases a <;> decide
  unfold row
  rw [show ((cfg0.win 0).blk Gen.t0_0).view.read (Elt Ideal) (V₁ m c main_v2) = V₁ m c main_v2 from
    Memref.read_access_unit_zero (Elt Ideal) main_v2 hz (fun a => by fin_cases a <;> decide) _, h]
  pointwise
end

end Cert.KernelIdeal.Run

end
-- ==== Proof.Value.lean ====
/- The value claim: every device ends with its block of the rows the reference computes. -/
module

public import proofs.«01_k».proof.Defs
public import proofs.«01_k».proof.Proof.Entries

@[expose] public section

noncomputable section

namespace Cert.Value

open Idealize.ShloMosaic Idealize.ShloMosaic.TcCoe Idealize.SL.Sem
open Cert.Norm
open Cert.KernelIdeal.Run (part row res both parts_at part_at row_at peer peer_x rowNo chunkNo halfR half_cover half_disjoint parts)

/-! ## The reference, entry by entry -/

section
open Cert.ReferenceIdeal Cert.ReferenceIdeal.Gen

/-- The sum of the two partial sums. -/
def total (X : Vec Ideal S2x4096x2048 .f32) : Vec Ideal S4096x2048 .f32 :=
  Host.reduceAdd (F := Ideal) X (constant S_ .f32 0x00000000#32) reducesTo_S2x4096x2048_S4096x2048_d0 h_S_

/-- What the reference computes of its two arguments. -/
def whole (X : Vec Ideal S2x4096x2048 .f32) (g : Vec Ideal S2048 .f32) : Vec Ideal S4096x2048 .f32 :=
  mulf (F := Ideal) (Host.divf (total X) (broadcastInDim S4096x2048 ![0, 1] bcast_S4096x1_S4096x2048_0_1 (Host.sqrt (addf
    (Host.divf (broadcastInDim S4096x1 ![0] bcast_S4096_S4096x1_0
        (Host.reduceAdd (mulf (total X) (total X)) (constant S_ .f32 0x00000000#32) reducesTo_S4096x2048_S4096_d1 h_S_))
      (broadcastInDim S4096x1 ![] bcast_S_S4096x1 (constant S_ .f32 0x45000000#32)))
    (broadcastInDim S4096x1 ![] bcast_S_S4096x1 (constant S_ .f32 0x358637BD#32))))))
  (broadcastInDim S4096x2048 ![0, 1] bcast_S1x2048_S4096x2048_0_1 (broadcastInDim S1x2048 ![1] bcast_S2048_S1x2048_1 g))

set_option maxRecDepth 16384 in
theorem total_at (X : Vec Ideal S2x4096x2048 .f32) (i : Fin 4096) (l : Fin 2048) :
    total X (ix2 i l) = X (ix3 0 i l) + X (ix3 1 i l) := by
  unfold total
  pointwise
  exact Fin.sum_univ_two (fun x : Fin 2 => (show EReal from X (ix3 x i l)))
set_option maxRecDepth 16384 in
theorem whole_at (X : Vec Ideal S2x4096x2048 .f32) (g : Vec Ideal S2048 .f32) (i : Fin 4096) (j : Fin 2048) :
    whole X g (ix2 i j) = normed (fun l => total X (ix2 i l)) (g (ix1 j)) j := by
  rw [← normed_div]
  unfold whole var
  generalize total X = Y
  pointwise
end

/-! ## One device's block -/

section
open Cert.KernelIdeal

theorem block_arg (X : Vec Ideal ⟨3, ![2, 4096, 2048]⟩ .f32) (c : Dev nD) (x : Fin 2) (hx : x.val = c.val / 8) (n : Fin 4096) (l : Fin 2048) :
    (Layout.blockN ⟨3, ![1, 4096, 2048]⟩ ⟨3, ![2, 4096, 2048]⟩ (Layout.meshBlock [2, 2, 4] ![[0], [], []] c) X) (ix3 0 n l) = X (ix3 x n l) := by
  rw [Layout.blockN_apply]
  refine congrArg X (funext fun a => Fin.ext ?_)
  rw [Layout.TilesN.idx_val]
  have hc : c.val < 16 := c.isLt
  fin_cases a <;> simp [Layout.meshLin, Layout.meshCoord, Layout.cutSize, hx]
  omega
theorem block_res (Z : Vec Ideal ⟨2, ![4096, 2048]⟩ .f32) (c : Dev nD) (r : Fin 2048) (j : Fin 2048) (n : Fin 4096) (hn : n.val = 2048 * (c.val / 8) + r.val) :
    (Layout.blockN ⟨2, ![2048, 2048]⟩ ⟨2, ![4096, 2048]⟩ (Layout.meshBlock [2, 2, 4] ![[0], []] c) Z) (ix2 r j) = Z (ix2 n j) := by
  rw [Layout.blockN_apply]
  refine congrArg Z (funext fun a => Fin.ext ?_)
  rw [Layout.TilesN.idx_val]
  have hc : c.val < 16 := c.isLt
  fin_cases a <;> simp [Layout.meshLin, Layout.meshCoord, Layout.cutSize, hn]
  omega

variable (m : (ℓ : Loc nD τ sig) → Buf (Elt Ideal) ℓ)
  (X : Vec Ideal ⟨3, ![2, 4096, 2048]⟩ .f32) (g : Vec Ideal ⟨1, ![2048]⟩ .f32)
  (hX : ∀ c : Dev nD, m ((c : Thread nD τ).loc main_arg0)
    = Layout.blockN ⟨3, ![1, 4096, 2048]⟩ ⟨3, ![2, 4096, 2048]⟩ (Layout.meshBlock [2, 2, 4] ![[0], [], []] c) X)
  (hg : ∀ c : Dev nD, m ((c : Thread nD τ).loc main_arg1) = g)
include hX hg

/-- A device's partial sums are the half of `X` that its x coordinate names. -/
theorem part_whole (c : Dev nD) (x : Fin 2) (hx : x.val = c.val / 8) (n : Fin 4096) (l : Fin 2048) : part m c (ix2 n l) = X (ix3 x n l) := by
  rw [part_at, hX, block_arg X c x hx]

/-- The device's row and its peer's are the two partial sums, in one order or the other. -/
theorem both_total (c : Dev nD) (t : Fin 2 × Fin 8) (i : Fin 128) (l : Fin 2048) : both (part m) c t i l = total X (ix2 (rowNo c t i) l) := by
  have hc : c.val < 16 := c.isLt
  have hp := peer_x c t.1
  rw [total_at]
  unfold both
  by_cases h : c.val / 8 = 0
  · rw [part_whole m X g hX hg c 0 h.symm, part_whole m X g hX hg (peer c t.1) 1 (by rw [hp, h]; rfl)]
  · have h1 : c.val / 8 = 1 := by omega
    rw [part_whole m X g hX hg c 1 h1.symm, part_whole m X g hX hg (peer c t.1) 0 (by rw [hp, h1]; rfl)]
    exact add_comm _ _

/-- The result of the kernel is the device's block of the reference's. -/
theorem res_block (c : Dev nD) :
    res m c = Layout.blockN ⟨2, ![2048, 2048]⟩ ⟨2, ![4096, 2048]⟩ (Layout.meshBlock [2, 2, 4] ![[0], []] c) (whole X g) := by
  funext z
  obtain ⟨t, -, hz⟩ := Finset.mem_biUnion.mp (by rw [half_cover c]; exact Finset.mem_univ z)
  obtain ⟨y, -, rfl⟩ := Finset.mem_map.mp ((halfR c t).map_emb_univ ▸ hz)
  obtain ⟨i, j, rfl⟩ : ∃ (i : Fin 128) (j : Fin 2048), y = ix2 i j := ⟨y 0, y 1, eq_ix2 y⟩
  have hi : (halfR c t).emb (ix2 i j) = ix2 (⟨128 * (chunkNo c t).val + i.val, by have := (chunkNo c t).isLt; omega⟩ : Fin 2048) j := by
    refine funext fun a => Fin.ext ?_
    have ho := Cert.KernelIdeal.Run.halfO_eq c t
    fin_cases a
    · simp [ho]
    · simp [ho]
  unfold res Cert.KernelIdeal.Run.result
  rw [Rect.glue_emb _ _ (half_disjoint c) _ t (ix2 i j), parts_at, hi, block_res (whole X g) c _ j (rowNo c t i) (by simp [rowNo]; omega), whole_at, row_at, hg]
  exact congrArg (fun y => normed y (g (ix1 j)) j) (funext fun l => both_total m X g hX hg c t i l)
end

/-! ## The claim -/

theorem algebraic : Cert.algebraic_KernelIdeal_ReferenceIdeal := by
  intro m ρ m' ρ' _ hm
  refine ⟨whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c).1.trans (res_block m _ _ (fun c => (hm c).1) (fun c => (hm c).2) c), (h.1 c).2⟩)
      (Cert.KernelIdeal.Run.run_main (F := Ideal) m ρ)
  · exact (θ_run Cert.ReferenceIdeal.defs _ _).mono (fun _ h => h 0) (Cert.ReferenceIdeal.Value.run (F := Ideal) m' ρ')

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, Cert.Value.algebraic⟩

end Cert.Proof

end
